-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v371) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x37x37x384 : Shape := ⟨4, ![8, 37, 37, 384]⟩
abbrev S8x384x37x37 : Shape := ⟨4, ![8, 384, 37, 37]⟩
abbrev S8x29x384x37x37 : Shape := ⟨5, ![8, 29, 384, 37, 37]⟩
abbrev S1x32x37x37 : Shape := ⟨4, ![1, 32, 37, 37]⟩
abbrev S1x29x32x37x37 : Shape := ⟨5, ![1, 29, 32, 37, 37]⟩
abbrev S32x37x37 : Shape := ⟨3, ![32, 37, 37]⟩
abbrev S32x37x36 : Shape := ⟨3, ![32, 37, 36]⟩
abbrev S32x37x1 : Shape := ⟨3, ![32, 37, 1]⟩
abbrev S32x36x37 : Shape := ⟨3, ![32, 36, 37]⟩
abbrev S32x1x37 : Shape := ⟨3, ![32, 1, 37]⟩
abbrev S1x37x37 : Shape := ⟨3, ![1, 37, 37]⟩
abbrev S1x1x32x37x37 : Shape := ⟨5, ![1, 1, 32, 37, 37]⟩
abbrev S32x37x34 : Shape := ⟨3, ![32, 37, 34]⟩
abbrev S32x34x37 : Shape := ⟨3, ![32, 34, 37]⟩
abbrev S12x32x37x37 : Shape := ⟨4, ![12, 32, 37, 37]⟩
abbrev S1x12x32x37x37 : Shape := ⟨5, ![1, 12, 32, 37, 37]⟩
abbrev S8x11136x37x37 : Shape := ⟨4, ![8, 11136, 37, 37]⟩

abbrev nBuf : Space → Nat
  | .hbm => 4
  | .vmem => 4
  | .smem => 0
  | _ => 0

abbrev bufTy : (tb : Table) → Fin (tcTables nBuf tb) → BufTy
  | .hbm, ⟨0, _⟩ => ⟨S8x37x37x384, .f32⟩
  | .hbm, ⟨1, _⟩ => ⟨S8x384x37x37, .f32⟩
  | .hbm, ⟨2, _⟩ => ⟨S8x29x384x37x37, .f32⟩
  | .hbm, ⟨3, _⟩ => ⟨S8x11136x37x37, .f32⟩
  | .local _ .vmem, ⟨0, _⟩ => ⟨S1x32x37x37, .f32⟩
  | .local _ .vmem, ⟨1, _⟩ => ⟨S1x32x37x37, .f32⟩
  | .local _ .vmem, ⟨2, _⟩ => ⟨S1x29x32x37x37, .f32⟩
  | .local _ .vmem, ⟨3, _⟩ => ⟨S1x29x32x37x37, .f32⟩
  | _, _ => ⟨S8x37x37x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x32x37x37 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x29x32x37x37 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S8x37x37x384 : Shape := ⟨4, ![8, 37, 37, 384]⟩
abbrev S8x384x37x37 : Shape := ⟨4, ![8, 384, 37, 37]⟩
abbrev S_ : Shape := ⟨0, ![]⟩
abbrev S1x1x37x37 : Shape := ⟨4, ![1, 1, 37, 37]⟩
abbrev S37 : Shape := ⟨1, ![37]⟩
abbrev S37x1 : Shape := ⟨2, ![37, 1]⟩
abbrev S8x1x384x37x37 : Shape := ⟨5, ![8, 1, 384, 37, 37]⟩
abbrev S8x9x384x37x37 : Shape := ⟨5, ![8, 9, 384, 37, 37]⟩
abbrev S8x8x384x37x37 : Shape := ⟨5, ![8, 8, 384, 37, 37]⟩
abbrev S8x12x384x37x37 : Shape := ⟨5, ![8, 12, 384, 37, 37]⟩
abbrev S8x29x384x37x37 : Shape := ⟨5, ![8, 29, 384, 37, 37]⟩
abbrev S8x11136x37x37 : Shape := ⟨4, ![8, 11136, 37, 37]⟩

abbrev nBuf : Space → Nat
  | .hbm => 717
  | .vmem => 0
  | .smem => 0
  | _ => 0

abbrev hbmTy0_0 (i : Nat) : BufTy := match i % 128 with
  | 0 => ⟨S8x37x37x384, .f32⟩
  | 1 => ⟨S8x384x37x37, .f32⟩
  | 2 => ⟨S_, .f32⟩
  | 3 => ⟨S_, .f32⟩
  | 4 => ⟨S8x384x37x37, .f32⟩
  | 5 => ⟨S_, .f32⟩
  | 6 => ⟨S1x1x37x37, .f32⟩
  | 7 => ⟨S_, .f32⟩
  | 8 => ⟨S_, .f32⟩
  | 9 => ⟨S1x1x37x37, .f32⟩
  | 10 => ⟨S8x384x37x37, .f32⟩
  | 11 => ⟨S8x384x37x37, .f32⟩
  | 12 => ⟨S37, .i32⟩
  | 13 => ⟨S37, .i32⟩
  | 14 => ⟨S_, .i32⟩
  | 15 => ⟨S37, .i32⟩
  | 16 => ⟨S37, .i32⟩
  | 17 => ⟨S_, .i32⟩
  | 18 => ⟨S_, .i32⟩
  | 19 => ⟨S_, .i32⟩
  | 20 => ⟨S37, .i32⟩
  | 21 => ⟨S37, .i32⟩
  | 22 => ⟨S_, .i32⟩
  | 23 => ⟨S37, .i32⟩
  | 24 => ⟨S37, .i32⟩
  | 25 => ⟨S_, .i32⟩
  | 26 => ⟨S37, .i32⟩
  | 27 => ⟨S37, .i32⟩
  | 28 => ⟨S_, .i32⟩
  | 29 => ⟨S_, .i32⟩
  | 30 => ⟨S_, .i32⟩
  | 31 => ⟨S37, .i32⟩
  | 32 => ⟨S37, .i32⟩
  | 33 => ⟨S_, .i32⟩
  | 34 => ⟨S37, .i32⟩
  | 35 => ⟨S37, .i32⟩
  | 36 => ⟨S_, .i32⟩
  | 37 => ⟨S37, .i32⟩
  | 38 => ⟨S37, .i1⟩
  | 39 => ⟨S_, .i32⟩
  | 40 => ⟨S37, .i32⟩
  | 41 => ⟨S37, .i32⟩
  | 42 => ⟨S37, .i32⟩
  | 43 => ⟨S37x1, .i32⟩
  | 44 => ⟨S8x384x37x37, .f32⟩
  | 45 => ⟨S_, .i32⟩
  | 46 => ⟨S37, .i32⟩
  | 47 => ⟨S37, .i1⟩
  | 48 => ⟨S_, .i32⟩
  | 49 => ⟨S37, .i32⟩
  | 50 => ⟨S37, .i32⟩
  | 51 => ⟨S37, .i32⟩
  | 52 => ⟨S37x1, .i32⟩
  | 53 => ⟨S8x384x37x37, .f32⟩
  | 54 => ⟨S_, .i32⟩
  | 55 => ⟨S37, .i32⟩
  | 56 => ⟨S37, .i32⟩
  | 57 => ⟨S_, .i32⟩
  | 58 => ⟨S_, .i32⟩
  | 59 => ⟨S_, .i32⟩
  | 60 => ⟨S37, .i32⟩
  | 61 => ⟨S37, .i32⟩
  | 62 => ⟨S_, .i32⟩
  | 63 => ⟨S37, .i32⟩
  | 64 => ⟨S37, .i32⟩
  | 65 => ⟨S_, .i32⟩
  | 66 => ⟨S37, .i32⟩
  | 67 => ⟨S37, .i32⟩
  | 68 => ⟨S_, .i32⟩
  | 69 => ⟨S_, .i32⟩
  | 70 => ⟨S_, .i32⟩
  | 71 => ⟨S37, .i32⟩
  | 72 => ⟨S37, .i32⟩
  | 73 => ⟨S_, .i32⟩
  | 74 => ⟨S37, .i32⟩
  | 75 => ⟨S37, .i32⟩
  | 76 => ⟨S_, .i32⟩
  | 77 => ⟨S37, .i32⟩
  | 78 => ⟨S37, .i1⟩
  | 79 => ⟨S_, .i32⟩
  | 80 => ⟨S37, .i32⟩
  | 81 => ⟨S37, .i32⟩
  | 82 => ⟨S37, .i32⟩
  | 83 => ⟨S37x1, .i32⟩
  | 84 => ⟨S8x384x37x37, .f32⟩
  | 85 => ⟨S_, .i32⟩
  | 86 => ⟨S37, .i32⟩
  | 87 => ⟨S37, .i1⟩
  | 88 => ⟨S_, .i32⟩
  | 89 => ⟨S37, .i32⟩
  | 90 => ⟨S37, .i32⟩
  | 91 => ⟨S37, .i32⟩
  | 92 => ⟨S37x1, .i32⟩
  | 93 => ⟨S8x384x37x37, .f32⟩
  | 94 => ⟨S_, .i32⟩
  | 95 => ⟨S37, .i32⟩
  | 96 => ⟨S37, .i32⟩
  | 97 => ⟨S_, .i32⟩
  | 98 => ⟨S_, .i32⟩
  | 99 => ⟨S_, .i32⟩
  | 100 => ⟨S37, .i32⟩
  | 101 => ⟨S37, .i32⟩
  | 102 => ⟨S_, .i32⟩
  | 103 => ⟨S37, .i32⟩
  | 104 => ⟨S37, .i32⟩
  | 105 => ⟨S_, .i32⟩
  | 106 => ⟨S37, .i32⟩
  | 107 => ⟨S37, .i32⟩
  | 108 => ⟨S_, .i32⟩
  | 109 => ⟨S_, .i32⟩
  | 110 => ⟨S_, .i32⟩
  | 111 => ⟨S37, .i32⟩
  | 112 => ⟨S37, .i32⟩
  | 113 => ⟨S_, .i32⟩
  | 114 => ⟨S37, .i32⟩
  | 115 => ⟨S37, .i32⟩
  | 116 => ⟨S_, .i32⟩
  | 117 => ⟨S37, .i32⟩
  | 118 => ⟨S37, .i1⟩
  | 119 => ⟨S_, .i32⟩
  | 120 => ⟨S37, .i32⟩
  | 121 => ⟨S37, .i32⟩
  | 122 => ⟨S37, .i32⟩
  | 123 => ⟨S37x1, .i32⟩
  | 124 => ⟨S8x384x37x37, .f32⟩
  | 125 => ⟨S_, .i32⟩
  | 126 => ⟨S37, .i32⟩
  | 127 => ⟨S37, .i1⟩
  | _ => ⟨S8x37x37x384, .f32⟩

abbrev hbmTy0_1 (i : Nat) : BufTy := match i % 128 with
  | 0 => ⟨S_, .i32⟩
  | 1 => ⟨S37, .i32⟩
  | 2 => ⟨S37, .i32⟩
  | 3 => ⟨S37, .i32⟩
  | 4 => ⟨S37x1, .i32⟩
  | 5 => ⟨S8x384x37x37, .f32⟩
  | 6 => ⟨S_, .i32⟩
  | 7 => ⟨S37, .i32⟩
  | 8 => ⟨S37, .i32⟩
  | 9 => ⟨S_, .i32⟩
  | 10 => ⟨S_, .i32⟩
  | 11 => ⟨S_, .i32⟩
  | 12 => ⟨S37, .i32⟩
  | 13 => ⟨S37, .i32⟩
  | 14 => ⟨S_, .i32⟩
  | 15 => ⟨S37, .i32⟩
  | 16 => ⟨S37, .i32⟩
  | 17 => ⟨S_, .i32⟩
  | 18 => ⟨S37, .i32⟩
  | 19 => ⟨S37, .i32⟩
  | 20 => ⟨S_, .i32⟩
  | 21 => ⟨S_, .i32⟩
  | 22 => ⟨S_, .i32⟩
  | 23 => ⟨S37, .i32⟩
  | 24 => ⟨S37, .i32⟩
  | 25 => ⟨S_, .i32⟩
  | 26 => ⟨S37, .i32⟩
  | 27 => ⟨S37, .i32⟩
  | 28 => ⟨S_, .i32⟩
  | 29 => ⟨S37, .i32⟩
  | 30 => ⟨S37, .i1⟩
  | 31 => ⟨S_, .i32⟩
  | 32 => ⟨S37, .i32⟩
  | 33 => ⟨S37, .i32⟩
  | 34 => ⟨S37, .i32⟩
  | 35 => ⟨S37x1, .i32⟩
  | 36 => ⟨S8x384x37x37, .f32⟩
  | 37 => ⟨S_, .i32⟩
  | 38 => ⟨S37, .i32⟩
  | 39 => ⟨S37, .i1⟩
  | 40 => ⟨S_, .i32⟩
  | 41 => ⟨S37, .i32⟩
  | 42 => ⟨S37, .i32⟩
  | 43 => ⟨S37, .i32⟩
  | 44 => ⟨S37x1, .i32⟩
  | 45 => ⟨S8x384x37x37, .f32⟩
  | 46 => ⟨S_, .i32⟩
  | 47 => ⟨S37, .i32⟩
  | 48 => ⟨S37, .i32⟩
  | 49 => ⟨S_, .i32⟩
  | 50 => ⟨S_, .i32⟩
  | 51 => ⟨S_, .i32⟩
  | 52 => ⟨S37, .i32⟩
  | 53 => ⟨S37, .i32⟩
  | 54 => ⟨S_, .i32⟩
  | 55 => ⟨S37, .i32⟩
  | 56 => ⟨S37, .i32⟩
  | 57 => ⟨S_, .i32⟩
  | 58 => ⟨S37, .i32⟩
  | 59 => ⟨S37, .i32⟩
  | 60 => ⟨S_, .i32⟩
  | 61 => ⟨S_, .i32⟩
  | 62 => ⟨S_, .i32⟩
  | 63 => ⟨S37, .i32⟩
  | 64 => ⟨S37, .i32⟩
  | 65 => ⟨S_, .i32⟩
  | 66 => ⟨S37, .i32⟩
  | 67 => ⟨S37, .i32⟩
  | 68 => ⟨S_, .i32⟩
  | 69 => ⟨S37, .i32⟩
  | 70 => ⟨S37, .i1⟩
  | 71 => ⟨S_, .i32⟩
  | 72 => ⟨S37, .i32⟩
  | 73 => ⟨S37, .i32⟩
  | 74 => ⟨S37, .i32⟩
  | 75 => ⟨S37x1, .i32⟩
  | 76 => ⟨S8x384x37x37, .f32⟩
  | 77 => ⟨S_, .i32⟩
  | 78 => ⟨S37, .i32⟩
  | 79 => ⟨S37, .i1⟩
  | 80 => ⟨S_, .i32⟩
  | 81 => ⟨S37, .i32⟩
  | 82 => ⟨S37, .i32⟩
  | 83 => ⟨S37, .i32⟩
  | 84 => ⟨S37x1, .i32⟩
  | 85 => ⟨S8x384x37x37, .f32⟩
  | 86 => ⟨S_, .i32⟩
  | 87 => ⟨S37, .i32⟩
  | 88 => ⟨S37, .i32⟩
  | 89 => ⟨S_, .i32⟩
  | 90 => ⟨S_, .i32⟩
  | 91 => ⟨S_, .i32⟩
  | 92 => ⟨S37, .i32⟩
  | 93 => ⟨S37, .i32⟩
  | 94 => ⟨S_, .i32⟩
  | 95 => ⟨S37, .i32⟩
  | 96 => ⟨S37, .i32⟩
  | 97 => ⟨S_, .i32⟩
  | 98 => ⟨S37, .i32⟩
  | 99 => ⟨S37, .i32⟩
  | 100 => ⟨S_, .i32⟩
  | 101 => ⟨S_, .i32⟩
  | 102 => ⟨S_, .i32⟩
  | 103 => ⟨S37, .i32⟩
  | 104 => ⟨S37, .i32⟩
  | 105 => ⟨S_, .i32⟩
  | 106 => ⟨S37, .i32⟩
  | 107 => ⟨S37, .i32⟩
  | 108 => ⟨S_, .i32⟩
  | 109 => ⟨S37, .i32⟩
  | 110 => ⟨S37, .i1⟩
  | 111 => ⟨S_, .i32⟩
  | 112 => ⟨S37, .i32⟩
  | 113 => ⟨S37, .i32⟩
  | 114 => ⟨S37, .i32⟩
  | 115 => ⟨S37x1, .i32⟩
  | 116 => ⟨S8x384x37x37, .f32⟩
  | 117 => ⟨S_, .i32⟩
  | 118 => ⟨S37, .i32⟩
  | 119 => ⟨S37, .i1⟩
  | 120 => ⟨S_, .i32⟩
  | 121 => ⟨S37, .i32⟩
  | 122 => ⟨S37, .i32⟩
  | 123 => ⟨S37, .i32⟩
  | 124 => ⟨S37x1, .i32⟩
  | 125 => ⟨S8x384x37x37, .f32⟩
  | 126 => ⟨S_, .i32⟩
  | 127 => ⟨S37, .i32⟩
  | _ => ⟨S8x37x37x384, .f32⟩

abbrev hbmTy0_2 (i : Nat) : BufTy := match i % 128 with
  | 0 => ⟨S37, .i32⟩
  | 1 => ⟨S_, .i32⟩
  | 2 => ⟨S_, .i32⟩
  | 3 => ⟨S_, .i32⟩
  | 4 => ⟨S37, .i32⟩
  | 5 => ⟨S37, .i32⟩
  | 6 => ⟨S_, .i32⟩
  | 7 => ⟨S37, .i32⟩
  | 8 => ⟨S37, .i32⟩
  | 9 => ⟨S_, .i32⟩
  | 10 => ⟨S37, .i32⟩
  | 11 => ⟨S37, .i32⟩
  | 12 => ⟨S_, .i32⟩
  | 13 => ⟨S_, .i32⟩
  | 14 => ⟨S_, .i32⟩
  | 15 => ⟨S37, .i32⟩
  | 16 => ⟨S37, .i32⟩
  | 17 => ⟨S_, .i32⟩
  | 18 => ⟨S37, .i32⟩
  | 19 => ⟨S37, .i32⟩
  | 20 => ⟨S_, .i32⟩
  | 21 => ⟨S37, .i32⟩
  | 22 => ⟨S37, .i1⟩
  | 23 => ⟨S_, .i32⟩
  | 24 => ⟨S37, .i32⟩
  | 25 => ⟨S37, .i32⟩
  | 26 => ⟨S37, .i32⟩
  | 27 => ⟨S37x1, .i32⟩
  | 28 => ⟨S8x384x37x37, .f32⟩
  | 29 => ⟨S_, .i32⟩
  | 30 => ⟨S37, .i32⟩
  | 31 => ⟨S37, .i1⟩
  | 32 => ⟨S_, .i32⟩
  | 33 => ⟨S37, .i32⟩
  | 34 => ⟨S37, .i32⟩
  | 35 => ⟨S37, .i32⟩
  | 36 => ⟨S37x1, .i32⟩
  | 37 => ⟨S8x384x37x37, .f32⟩
  | 38 => ⟨S_, .i32⟩
  | 39 => ⟨S37, .i32⟩
  | 40 => ⟨S37, .i32⟩
  | 41 => ⟨S_, .i32⟩
  | 42 => ⟨S_, .i32⟩
  | 43 => ⟨S_, .i32⟩
  | 44 => ⟨S37, .i32⟩
  | 45 => ⟨S37, .i32⟩
  | 46 => ⟨S_, .i32⟩
  | 47 => ⟨S37, .i32⟩
  | 48 => ⟨S37, .i32⟩
  | 49 => ⟨S_, .i32⟩
  | 50 => ⟨S37, .i32⟩
  | 51 => ⟨S37, .i32⟩
  | 52 => ⟨S_, .i32⟩
  | 53 => ⟨S_, .i32⟩
  | 54 => ⟨S_, .i32⟩
  | 55 => ⟨S37, .i32⟩
  | 56 => ⟨S37, .i32⟩
  | 57 => ⟨S_, .i32⟩
  | 58 => ⟨S37, .i32⟩
  | 59 => ⟨S37, .i32⟩
  | 60 => ⟨S_, .i32⟩
  | 61 => ⟨S37, .i32⟩
  | 62 => ⟨S37, .i1⟩
  | 63 => ⟨S_, .i32⟩
  | 64 => ⟨S37, .i32⟩
  | 65 => ⟨S37, .i32⟩
  | 66 => ⟨S37, .i32⟩
  | 67 => ⟨S37x1, .i32⟩
  | 68 => ⟨S8x384x37x37, .f32⟩
  | 69 => ⟨S_, .i32⟩
  | 70 => ⟨S37, .i32⟩
  | 71 => ⟨S37, .i1⟩
  | 72 => ⟨S_, .i32⟩
  | 73 => ⟨S37, .i32⟩
  | 74 => ⟨S37, .i32⟩
  | 75 => ⟨S37, .i32⟩
  | 76 => ⟨S37x1, .i32⟩
  | 77 => ⟨S8x384x37x37, .f32⟩
  | 78 => ⟨S_, .i32⟩
  | 79 => ⟨S37, .i32⟩
  | 80 => ⟨S37, .i32⟩
  | 81 => ⟨S_, .i32⟩
  | 82 => ⟨S_, .i32⟩
  | 83 => ⟨S_, .i32⟩
  | 84 => ⟨S37, .i32⟩
  | 85 => ⟨S37, .i32⟩
  | 86 => ⟨S_, .i32⟩
  | 87 => ⟨S37, .i32⟩
  | 88 => ⟨S37, .i32⟩
  | 89 => ⟨S_, .i32⟩
  | 90 => ⟨S37, .i32⟩
  | 91 => ⟨S37, .i32⟩
  | 92 => ⟨S_, .i32⟩
  | 93 => ⟨S_, .i32⟩
  | 94 => ⟨S_, .i32⟩
  | 95 => ⟨S37, .i32⟩
  | 96 => ⟨S37, .i32⟩
  | 97 => ⟨S_, .i32⟩
  | 98 => ⟨S37, .i32⟩
  | 99 => ⟨S37, .i32⟩
  | 100 => ⟨S_, .i32⟩
  | 101 => ⟨S37, .i32⟩
  | 102 => ⟨S37, .i1⟩
  | 103 => ⟨S_, .i32⟩
  | 104 => ⟨S37, .i32⟩
  | 105 => ⟨S37, .i32⟩
  | 106 => ⟨S37, .i32⟩
  | 107 => ⟨S37x1, .i32⟩
  | 108 => ⟨S8x384x37x37, .f32⟩
  | 109 => ⟨S_, .i32⟩
  | 110 => ⟨S37, .i32⟩
  | 111 => ⟨S37, .i1⟩
  | 112 => ⟨S_, .i32⟩
  | 113 => ⟨S37, .i32⟩
  | 114 => ⟨S37, .i32⟩
  | 115 => ⟨S37, .i32⟩
  | 116 => ⟨S37x1, .i32⟩
  | 117 => ⟨S8x384x37x37, .f32⟩
  | 118 => ⟨S_, .i32⟩
  | 119 => ⟨S37, .i32⟩
  | 120 => ⟨S37, .i32⟩
  | 121 => ⟨S_, .i32⟩
  | 122 => ⟨S_, .i32⟩
  | 123 => ⟨S_, .i32⟩
  | 124 => ⟨S37, .i32⟩
  | 125 => ⟨S37, .i32⟩
  | 126 => ⟨S_, .i32⟩
  | 127 => ⟨S37, .i32⟩
  | _ => ⟨S8x37x37x384, .f32⟩

abbrev hbmTy0_3 (i : Nat) : BufTy := match i % 128 with
  | 0 => ⟨S37, .i32⟩
  | 1 => ⟨S_, .i32⟩
  | 2 => ⟨S37, .i32⟩
  | 3 => ⟨S37, .i32⟩
  | 4 => ⟨S_, .i32⟩
  | 5 => ⟨S_, .i32⟩
  | 6 => ⟨S_, .i32⟩
  | 7 => ⟨S37, .i32⟩
  | 8 => ⟨S37, .i32⟩
  | 9 => ⟨S_, .i32⟩
  | 10 => ⟨S37, .i32⟩
  | 11 => ⟨S37, .i32⟩
  | 12 => ⟨S_, .i32⟩
  | 13 => ⟨S37, .i32⟩
  | 14 => ⟨S37, .i1⟩
  | 15 => ⟨S_, .i32⟩
  | 16 => ⟨S37, .i32⟩
  | 17 => ⟨S37, .i32⟩
  | 18 => ⟨S37, .i32⟩
  | 19 => ⟨S37x1, .i32⟩
  | 20 => ⟨S8x384x37x37, .f32⟩
  | 21 => ⟨S_, .i32⟩
  | 22 => ⟨S37, .i32⟩
  | 23 => ⟨S37, .i1⟩
  | 24 => ⟨S_, .i32⟩
  | 25 => ⟨S37, .i32⟩
  | 26 => ⟨S37, .i32⟩
  | 27 => ⟨S37, .i32⟩
  | 28 => ⟨S37x1, .i32⟩
  | 29 => ⟨S8x384x37x37, .f32⟩
  | 30 => ⟨S_, .i32⟩
  | 31 => ⟨S37, .i32⟩
  | 32 => ⟨S37, .i32⟩
  | 33 => ⟨S_, .i32⟩
  | 34 => ⟨S_, .i32⟩
  | 35 => ⟨S_, .i32⟩
  | 36 => ⟨S37, .i32⟩
  | 37 => ⟨S37, .i32⟩
  | 38 => ⟨S_, .i32⟩
  | 39 => ⟨S37, .i32⟩
  | 40 => ⟨S37, .i32⟩
  | 41 => ⟨S_, .i32⟩
  | 42 => ⟨S37, .i32⟩
  | 43 => ⟨S37, .i32⟩
  | 44 => ⟨S_, .i32⟩
  | 45 => ⟨S_, .i32⟩
  | 46 => ⟨S_, .i32⟩
  | 47 => ⟨S37, .i32⟩
  | 48 => ⟨S37, .i32⟩
  | 49 => ⟨S_, .i32⟩
  | 50 => ⟨S37, .i32⟩
  | 51 => ⟨S37, .i32⟩
  | 52 => ⟨S_, .i32⟩
  | 53 => ⟨S37, .i32⟩
  | 54 => ⟨S37, .i1⟩
  | 55 => ⟨S_, .i32⟩
  | 56 => ⟨S37, .i32⟩
  | 57 => ⟨S37, .i32⟩
  | 58 => ⟨S37, .i32⟩
  | 59 => ⟨S37x1, .i32⟩
  | 60 => ⟨S8x384x37x37, .f32⟩
  | 61 => ⟨S_, .i32⟩
  | 62 => ⟨S37, .i32⟩
  | 63 => ⟨S37, .i1⟩
  | 64 => ⟨S_, .i32⟩
  | 65 => ⟨S37, .i32⟩
  | 66 => ⟨S37, .i32⟩
  | 67 => ⟨S37, .i32⟩
  | 68 => ⟨S37x1, .i32⟩
  | 69 => ⟨S8x384x37x37, .f32⟩
  | 70 => ⟨S_, .i32⟩
  | 71 => ⟨S37, .i32⟩
  | 72 => ⟨S37, .i32⟩
  | 73 => ⟨S_, .i32⟩
  | 74 => ⟨S_, .i32⟩
  | 75 => ⟨S_, .i32⟩
  | 76 => ⟨S37, .i32⟩
  | 77 => ⟨S37, .i32⟩
  | 78 => ⟨S_, .i32⟩
  | 79 => ⟨S37, .i32⟩
  | 80 => ⟨S37, .i32⟩
  | 81 => ⟨S_, .i32⟩
  | 82 => ⟨S37, .i32⟩
  | 83 => ⟨S37, .i32⟩
  | 84 => ⟨S_, .i32⟩
  | 85 => ⟨S_, .i32⟩
  | 86 => ⟨S_, .i32⟩
  | 87 => ⟨S37, .i32⟩
  | 88 => ⟨S37, .i32⟩
  | 89 => ⟨S_, .i32⟩
  | 90 => ⟨S37, .i32⟩
  | 91 => ⟨S37, .i32⟩
  | 92 => ⟨S_, .i32⟩
  | 93 => ⟨S37, .i32⟩
  | 94 => ⟨S37, .i1⟩
  | 95 => ⟨S_, .i32⟩
  | 96 => ⟨S37, .i32⟩
  | 97 => ⟨S37, .i32⟩
  | 98 => ⟨S37, .i32⟩
  | 99 => ⟨S37x1, .i32⟩
  | 100 => ⟨S8x384x37x37, .f32⟩
  | 101 => ⟨S_, .i32⟩
  | 102 => ⟨S37, .i32⟩
  | 103 => ⟨S37, .i1⟩
  | 104 => ⟨S_, .i32⟩
  | 105 => ⟨S37, .i32⟩
  | 106 => ⟨S37, .i32⟩
  | 107 => ⟨S37, .i32⟩
  | 108 => ⟨S37x1, .i32⟩
  | 109 => ⟨S8x384x37x37, .f32⟩
  | 110 => ⟨S_, .i32⟩
  | 111 => ⟨S37, .i32⟩
  | 112 => ⟨S37, .i32⟩
  | 113 => ⟨S_, .i32⟩
  | 114 => ⟨S_, .i32⟩
  | 115 => ⟨S_, .i32⟩
  | 116 => ⟨S37, .i32⟩
  | 117 => ⟨S37, .i32⟩
  | 118 => ⟨S_, .i32⟩
  | 119 => ⟨S37, .i32⟩
  | 120 => ⟨S37, .i32⟩
  | 121 => ⟨S_, .i32⟩
  | 122 => ⟨S37, .i32⟩
  | 123 => ⟨S37, .i32⟩
  | 124 => ⟨S_, .i32⟩
  | 125 => ⟨S_, .i32⟩
  | 126 => ⟨S_, .i32⟩
  | 127 => ⟨S37, .i32⟩
  | _ => ⟨S8x37x37x384, .f32⟩

abbrev hbmTy0_4 (i : Nat) : BufTy := match i % 128 with
  | 0 => ⟨S37, .i32⟩
  | 1 => ⟨S_, .i32⟩
  | 2 => ⟨S37, .i32⟩
  | 3 => ⟨S37, .i32⟩
  | 4 => ⟨S_, .i32⟩
  | 5 => ⟨S37, .i32⟩
  | 6 => ⟨S37, .i1⟩
  | 7 => ⟨S_, .i32⟩
  | 8 => ⟨S37, .i32⟩
  | 9 => ⟨S37, .i32⟩
  | 10 => ⟨S37, .i32⟩
  | 11 => ⟨S37x1, .i32⟩
  | 12 => ⟨S8x384x37x37, .f32⟩
  | 13 => ⟨S_, .i32⟩
  | 14 => ⟨S37, .i32⟩
  | 15 => ⟨S37, .i1⟩
  | 16 => ⟨S_, .i32⟩
  | 17 => ⟨S37, .i32⟩
  | 18 => ⟨S37, .i32⟩
  | 19 => ⟨S37, .i32⟩
  | 20 => ⟨S37x1, .i32⟩
  | 21 => ⟨S8x384x37x37, .f32⟩
  | 22 => ⟨S_, .i32⟩
  | 23 => ⟨S37, .i32⟩
  | 24 => ⟨S37, .i32⟩
  | 25 => ⟨S_, .i32⟩
  | 26 => ⟨S_, .i32⟩
  | 27 => ⟨S_, .i32⟩
  | 28 => ⟨S37, .i32⟩
  | 29 => ⟨S37, .i32⟩
  | 30 => ⟨S_, .i32⟩
  | 31 => ⟨S37, .i32⟩
  | 32 => ⟨S37, .i32⟩
  | 33 => ⟨S_, .i32⟩
  | 34 => ⟨S37, .i32⟩
  | 35 => ⟨S37, .i32⟩
  | 36 => ⟨S_, .i32⟩
  | 37 => ⟨S_, .i32⟩
  | 38 => ⟨S_, .i32⟩
  | 39 => ⟨S37, .i32⟩
  | 40 => ⟨S37, .i32⟩
  | 41 => ⟨S_, .i32⟩
  | 42 => ⟨S37, .i32⟩
  | 43 => ⟨S37, .i32⟩
  | 44 => ⟨S_, .i32⟩
  | 45 => ⟨S37, .i32⟩
  | 46 => ⟨S37, .i1⟩
  | 47 => ⟨S_, .i32⟩
  | 48 => ⟨S37, .i32⟩
  | 49 => ⟨S37, .i32⟩
  | 50 => ⟨S37, .i32⟩
  | 51 => ⟨S37x1, .i32⟩
  | 52 => ⟨S8x384x37x37, .f32⟩
  | 53 => ⟨S_, .i32⟩
  | 54 => ⟨S37, .i32⟩
  | 55 => ⟨S37, .i1⟩
  | 56 => ⟨S_, .i32⟩
  | 57 => ⟨S37, .i32⟩
  | 58 => ⟨S37, .i32⟩
  | 59 => ⟨S37, .i32⟩
  | 60 => ⟨S37x1, .i32⟩
  | 61 => ⟨S8x384x37x37, .f32⟩
  | 62 => ⟨S_, .i32⟩
  | 63 => ⟨S37, .i32⟩
  | 64 => ⟨S37, .i32⟩
  | 65 => ⟨S_, .i32⟩
  | 66 => ⟨S_, .i32⟩
  | 67 => ⟨S_, .i32⟩
  | 68 => ⟨S37, .i32⟩
  | 69 => ⟨S37, .i32⟩
  | 70 => ⟨S_, .i32⟩
  | 71 => ⟨S37, .i32⟩
  | 72 => ⟨S37, .i32⟩
  | 73 => ⟨S_, .i32⟩
  | 74 => ⟨S37, .i32⟩
  | 75 => ⟨S37, .i32⟩
  | 76 => ⟨S_, .i32⟩
  | 77 => ⟨S_, .i32⟩
  | 78 => ⟨S_, .i32⟩
  | 79 => ⟨S37, .i32⟩
  | 80 => ⟨S37, .i32⟩
  | 81 => ⟨S_, .i32⟩
  | 82 => ⟨S37, .i32⟩
  | 83 => ⟨S37, .i32⟩
  | 84 => ⟨S_, .i32⟩
  | 85 => ⟨S37, .i32⟩
  | 86 => ⟨S37, .i1⟩
  | 87 => ⟨S_, .i32⟩
  | 88 => ⟨S37, .i32⟩
  | 89 => ⟨S37, .i32⟩
  | 90 => ⟨S37, .i32⟩
  | 91 => ⟨S37x1, .i32⟩
  | 92 => ⟨S8x384x37x37, .f32⟩
  | 93 => ⟨S_, .i32⟩
  | 94 => ⟨S37, .i32⟩
  | 95 => ⟨S37, .i1⟩
  | 96 => ⟨S_, .i32⟩
  | 97 => ⟨S37, .i32⟩
  | 98 => ⟨S37, .i32⟩
  | 99 => ⟨S37, .i32⟩
  | 100 => ⟨S37x1, .i32⟩
  | 101 => ⟨S8x384x37x37, .f32⟩
  | 102 => ⟨S_, .i32⟩
  | 103 => ⟨S37, .i32⟩
  | 104 => ⟨S37, .i32⟩
  | 105 => ⟨S_, .i32⟩
  | 106 => ⟨S_, .i32⟩
  | 107 => ⟨S_, .i32⟩
  | 108 => ⟨S37, .i32⟩
  | 109 => ⟨S37, .i32⟩
  | 110 => ⟨S_, .i32⟩
  | 111 => ⟨S37, .i32⟩
  | 112 => ⟨S37, .i32⟩
  | 113 => ⟨S_, .i32⟩
  | 114 => ⟨S37, .i32⟩
  | 115 => ⟨S37, .i32⟩
  | 116 => ⟨S_, .i32⟩
  | 117 => ⟨S_, .i32⟩
  | 118 => ⟨S_, .i32⟩
  | 119 => ⟨S37, .i32⟩
  | 120 => ⟨S37, .i32⟩
  | 121 => ⟨S_, .i32⟩
  | 122 => ⟨S37, .i32⟩
  | 123 => ⟨S37, .i32⟩
  | 124 => ⟨S_, .i32⟩
  | 125 => ⟨S37, .i32⟩
  | 126 => ⟨S37, .i1⟩
  | 127 => ⟨S_, .i32⟩
  | _ => ⟨S8x37x37x384, .f32⟩

abbrev hbmTy0_5 (i : Nat) : BufTy := match i % 128 with
  | 0 => ⟨S37, .i32⟩
  | 1 => ⟨S37, .i32⟩
  | 2 => ⟨S37, .i32⟩
  | 3 => ⟨S37x1, .i32⟩
  | 4 => ⟨S8x384x37x37, .f32⟩
  | 5 => ⟨S_, .i32⟩
  | 6 => ⟨S37, .i32⟩
  | 7 => ⟨S37, .i1⟩
  | 8 => ⟨S_, .i32⟩
  | 9 => ⟨S37, .i32⟩
  | 10 => ⟨S37, .i32⟩
  | 11 => ⟨S37, .i32⟩
  | 12 => ⟨S37x1, .i32⟩
  | 13 => ⟨S8x384x37x37, .f32⟩
  | 14 => ⟨S_, .i32⟩
  | 15 => ⟨S37, .i32⟩
  | 16 => ⟨S37, .i32⟩
  | 17 => ⟨S_, .i32⟩
  | 18 => ⟨S_, .i32⟩
  | 19 => ⟨S_, .i32⟩
  | 20 => ⟨S37, .i32⟩
  | 21 => ⟨S37, .i32⟩
  | 22 => ⟨S_, .i32⟩
  | 23 => ⟨S37, .i32⟩
  | 24 => ⟨S37, .i32⟩
  | 25 => ⟨S_, .i32⟩
  | 26 => ⟨S37, .i32⟩
  | 27 => ⟨S37, .i32⟩
  | 28 => ⟨S_, .i32⟩
  | 29 => ⟨S_, .i32⟩
  | 30 => ⟨S_, .i32⟩
  | 31 => ⟨S37, .i32⟩
  | 32 => ⟨S37, .i32⟩
  | 33 => ⟨S_, .i32⟩
  | 34 => ⟨S37, .i32⟩
  | 35 => ⟨S37, .i32⟩
  | 36 => ⟨S_, .i32⟩
  | 37 => ⟨S37, .i32⟩
  | 38 => ⟨S37, .i1⟩
  | 39 => ⟨S_, .i32⟩
  | 40 => ⟨S37, .i32⟩
  | 41 => ⟨S37, .i32⟩
  | 42 => ⟨S37, .i32⟩
  | 43 => ⟨S37x1, .i32⟩
  | 44 => ⟨S8x384x37x37, .f32⟩
  | 45 => ⟨S_, .i32⟩
  | 46 => ⟨S37, .i32⟩
  | 47 => ⟨S37, .i1⟩
  | 48 => ⟨S_, .i32⟩
  | 49 => ⟨S37, .i32⟩
  | 50 => ⟨S37, .i32⟩
  | 51 => ⟨S37, .i32⟩
  | 52 => ⟨S37x1, .i32⟩
  | 53 => ⟨S8x384x37x37, .f32⟩
  | 54 => ⟨S8x1x384x37x37, .f32⟩
  | 55 => ⟨S8x1x384x37x37, .f32⟩
  | 56 => ⟨S8x1x384x37x37, .f32⟩
  | 57 => ⟨S8x1x384x37x37, .f32⟩
  | 58 => ⟨S8x1x384x37x37, .f32⟩
  | 59 => ⟨S8x1x384x37x37, .f32⟩
  | 60 => ⟨S8x1x384x37x37, .f32⟩
  | 61 => ⟨S8x1x384x37x37, .f32⟩
  | 62 => ⟨S8x1x384x37x37, .f32⟩
  | 63 => ⟨S8x9x384x37x37, .f32⟩
  | 64 => ⟨S8x1x384x37x37, .f32⟩
  | 65 => ⟨S8x1x384x37x37, .f32⟩
  | 66 => ⟨S8x1x384x37x37, .f32⟩
  | 67 => ⟨S8x1x384x37x37, .f32⟩
  | 68 => ⟨S8x1x384x37x37, .f32⟩
  | 69 => ⟨S8x1x384x37x37, .f32⟩
  | 70 => ⟨S8x1x384x37x37, .f32⟩
  | 71 => ⟨S8x1x384x37x37, .f32⟩
  | 72 => ⟨S8x8x384x37x37, .f32⟩
  | 73 => ⟨S_, .f32⟩
  | 74 => ⟨S8x12x384x37x37, .f32⟩
  | 75 => ⟨S8x29x384x37x37, .f32⟩
  | 76 => ⟨S8x11136x37x37, .f32⟩
  | _ => ⟨S8x37x37x384, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x37x37x384, .f32⟩

abbrev bufTy : (tb : Table) → Fin (tcTables nBuf tb) → BufTy
  | .hbm, ⟨i, _⟩ => hbmTy i
  | _, _ => ⟨S8x37x37x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_c_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_c_6 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v15 : Ref sig .tc := ⟨.hbm, 35, rfl⟩
abbrev main_c_7 : Ref sig .tc := ⟨.hbm, 36, rfl⟩
abbrev main_v16 : Ref sig .tc := ⟨.hbm, 37, rfl⟩
abbrev main_v17 : Ref sig .tc := ⟨.hbm, 38, rfl⟩
abbrev main_c_8 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_9 : Ref sig .tc := ⟨.hbm, 45, rfl⟩
abbrev main_v23 : Ref sig .tc := ⟨.hbm, 46, rfl⟩
abbrev main_v24 : Ref sig .tc := ⟨.hbm, 47, rfl⟩
abbrev main_c_10 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_11 : Ref sig .tc := ⟨.hbm, 54, rfl⟩
abbrev main_v30 : Ref sig .tc := ⟨.hbm, 55, rfl⟩
abbrev main_v31 : Ref sig .tc := ⟨.hbm, 56, rfl⟩
abbrev main_c_12 : Ref sig .tc := ⟨.hbm, 57, rfl⟩
abbrev main_c_13 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v32 : Ref sig .tc := ⟨.hbm, 64, rfl⟩
abbrev main_c_14 : Ref sig .tc := ⟨.hbm, 65, rfl⟩
abbrev main_v33 : Ref sig .tc := ⟨.hbm, 66, rfl⟩
abbrev main_v34 : Ref sig .tc := ⟨.hbm, 67, rfl⟩
abbrev main_c_15 : Ref sig .tc := ⟨.hbm, 68, rfl⟩
abbrev main_c_16 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v35 : Ref sig .tc := ⟨.hbm, 75, rfl⟩
abbrev main_c_17 : Ref sig .tc := ⟨.hbm, 76, rfl⟩
abbrev main_v36 : Ref sig .tc := ⟨.hbm, 77, rfl⟩
abbrev main_v37 : Ref sig .tc := ⟨.hbm, 78, rfl⟩
abbrev main_c_18 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_c_19 : Ref sig .tc := ⟨.hbm, 85, rfl⟩
abbrev main_v43 : Ref sig .tc := ⟨.hbm, 86, rfl⟩
abbrev main_v44 : Ref sig .tc := ⟨.hbm, 87, rfl⟩
abbrev main_c_20 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_21 : Ref sig .tc := ⟨.hbm, 94, rfl⟩
abbrev main_v50 : Ref sig .tc := ⟨.hbm, 95, rfl⟩
abbrev main_v51 : Ref sig .tc := ⟨.hbm, 96, rfl⟩
abbrev main_c_22 : Ref sig .tc := ⟨.hbm, 97, rfl⟩
abbrev main_c_23 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v52 : Ref sig .tc := ⟨.hbm, 104, rfl⟩
abbrev main_c_24 : Ref sig .tc := ⟨.hbm, 105, rfl⟩
abbrev main_v53 : Ref sig .tc := ⟨.hbm, 106, rfl⟩
abbrev main_v54 : Ref sig .tc := ⟨.hbm, 107, rfl⟩
abbrev main_c_25 : Ref sig .tc := ⟨.hbm, 108, rfl⟩
abbrev main_c_26 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_v55 : Ref sig .tc := ⟨.hbm, 115, rfl⟩
abbrev main_c_27 : Ref sig .tc := ⟨.hbm, 116, rfl⟩
abbrev main_v56 : Ref sig .tc := ⟨.hbm, 117, rfl⟩
abbrev main_v57 : Ref sig .tc := ⟨.hbm, 118, rfl⟩
abbrev main_c_28 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_c_29 : Ref sig .tc := ⟨.hbm, 125, rfl⟩
abbrev main_v63 : Ref sig .tc := ⟨.hbm, 126, rfl⟩
abbrev main_v64 : Ref sig .tc := ⟨.hbm, 127, rfl⟩
abbrev main_c_30 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_c_31 : Ref sig .tc := ⟨.hbm, 134, rfl⟩
abbrev main_v70 : Ref sig .tc := ⟨.hbm, 135, rfl⟩
abbrev main_v71 : Ref sig .tc := ⟨.hbm, 136, rfl⟩
abbrev main_c_32 : Ref sig .tc := ⟨.hbm, 137, rfl⟩
abbrev main_c_33 : Ref sig .tc := ⟨.hbm, 138, rfl⟩
abbrev main_call6_v0 : Ref sig .tc := ⟨.hbm, 139, rfl⟩
abbrev main_call6_v1 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_v72 : Ref sig .tc := ⟨.hbm, 144, rfl⟩
abbrev main_c_34 : Ref sig .tc := ⟨.hbm, 145, rfl⟩
abbrev main_v73 : Ref sig .tc := ⟨.hbm, 146, rfl⟩
abbrev main_v74 : Ref sig .tc := ⟨.hbm, 147, rfl⟩
abbrev main_c_35 : Ref sig .tc := ⟨.hbm, 148, rfl⟩
abbrev main_c_36 : Ref sig .tc := ⟨.hbm, 149, rfl⟩
abbrev main_call7_v0 : Ref sig .tc := ⟨.hbm, 150, rfl⟩
abbrev main_call7_v1 : Ref sig .tc := ⟨.hbm, 151, rfl⟩
abbrev main_call7_v2 : Ref sig .tc := ⟨.hbm, 152, rfl⟩
abbrev main_call7_v3 : Ref sig .tc := ⟨.hbm, 153, rfl⟩
abbrev main_call7_v4 : Ref sig .tc := ⟨.hbm, 154, rfl⟩
abbrev main_v75 : Ref sig .tc := ⟨.hbm, 155, rfl⟩
abbrev main_c_37 : Ref sig .tc := ⟨.hbm, 156, rfl⟩
abbrev main_v76 : Ref sig .tc := ⟨.hbm, 157, rfl⟩
abbrev main_v77 : Ref sig .tc := ⟨.hbm, 158, rfl⟩
abbrev main_c_38 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_c_39 : Ref sig .tc := ⟨.hbm, 165, rfl⟩
abbrev main_v83 : Ref sig .tc := ⟨.hbm, 166, rfl⟩
abbrev main_v84 : Ref sig .tc := ⟨.hbm, 167, rfl⟩
abbrev main_c_40 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_c_41 : Ref sig .tc := ⟨.hbm, 174, rfl⟩
abbrev main_v90 : Ref sig .tc := ⟨.hbm, 175, rfl⟩
abbrev main_v91 : Ref sig .tc := ⟨.hbm, 176, rfl⟩
abbrev main_c_42 : Ref sig .tc := ⟨.hbm, 177, rfl⟩
abbrev main_c_43 : Ref sig .tc := ⟨.hbm, 178, rfl⟩
abbrev main_call8_v0 : Ref sig .tc := ⟨.hbm, 179, rfl⟩
abbrev main_call8_v1 : Ref sig .tc := ⟨.hbm, 180, rfl⟩
abbrev main_call8_v2 : Ref sig .tc := ⟨.hbm, 181, rfl⟩
abbrev main_call8_v3 : Ref sig .tc := ⟨.hbm, 182, rfl⟩
abbrev main_call8_v4 : Ref sig .tc := ⟨.hbm, 183, rfl⟩
abbrev main_v92 : Ref sig .tc := ⟨.hbm, 184, rfl⟩
abbrev main_c_44 : Ref sig .tc := ⟨.hbm, 185, rfl⟩
abbrev main_v93 : Ref sig .tc := ⟨.hbm, 186, rfl⟩
abbrev main_v94 : Ref sig .tc := ⟨.hbm, 187, rfl⟩
abbrev main_c_45 : Ref sig .tc := ⟨.hbm, 188, rfl⟩
abbrev main_c_46 : Ref sig .tc := ⟨.hbm, 189, rfl⟩
abbrev main_call9_v0 : Ref sig .tc := ⟨.hbm, 190, rfl⟩
abbrev main_call9_v1 : Ref sig .tc := ⟨.hbm, 191, rfl⟩
abbrev main_call9_v2 : Ref sig .tc := ⟨.hbm, 192, rfl⟩
abbrev main_call9_v3 : Ref sig .tc := ⟨.hbm, 193, rfl⟩
abbrev main_call9_v4 : Ref sig .tc := ⟨.hbm, 194, rfl⟩
abbrev main_v95 : Ref sig .tc := ⟨.hbm, 195, rfl⟩
abbrev main_c_47 : Ref sig .tc := ⟨.hbm, 196, rfl⟩
abbrev main_v96 : Ref sig .tc := ⟨.hbm, 197, rfl⟩
abbrev main_v97 : Ref sig .tc := ⟨.hbm, 198, rfl⟩
abbrev main_c_48 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_v102 : Ref sig .tc := ⟨.hbm, 204, rfl⟩
abbrev main_c_49 : Ref sig .tc := ⟨.hbm, 205, rfl⟩
abbrev main_v103 : Ref sig .tc := ⟨.hbm, 206, rfl⟩
abbrev main_v104 : Ref sig .tc := ⟨.hbm, 207, rfl⟩
abbrev main_c_50 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_c_51 : Ref sig .tc := ⟨.hbm, 214, rfl⟩
abbrev main_v110 : Ref sig .tc := ⟨.hbm, 215, rfl⟩
abbrev main_v111 : Ref sig .tc := ⟨.hbm, 216, rfl⟩
abbrev main_c_52 : Ref sig .tc := ⟨.hbm, 217, rfl⟩
abbrev main_c_53 : Ref sig .tc := ⟨.hbm, 218, rfl⟩
abbrev main_call10_v0 : Ref sig .tc := ⟨.hbm, 219, rfl⟩
abbrev main_call10_v1 : Ref sig .tc := ⟨.hbm, 220, rfl⟩
abbrev main_call10_v2 : Ref sig .tc := ⟨.hbm, 221, rfl⟩
abbrev main_call10_v3 : Ref sig .tc := ⟨.hbm, 222, rfl⟩
abbrev main_call10_v4 : Ref sig .tc := ⟨.hbm, 223, rfl⟩
abbrev main_v112 : Ref sig .tc := ⟨.hbm, 224, rfl⟩
abbrev main_c_54 : Ref sig .tc := ⟨.hbm, 225, rfl⟩
abbrev main_v113 : Ref sig .tc := ⟨.hbm, 226, rfl⟩
abbrev main_v114 : Ref sig .tc := ⟨.hbm, 227, rfl⟩
abbrev main_c_55 : Ref sig .tc := ⟨.hbm, 228, rfl⟩
abbrev main_c_56 : Ref sig .tc := ⟨.hbm, 229, rfl⟩
abbrev main_call11_v0 : Ref sig .tc := ⟨.hbm, 230, rfl⟩
abbrev main_call11_v1 : Ref sig .tc := ⟨.hbm, 231, rfl⟩
abbrev main_call11_v2 : Ref sig .tc := ⟨.hbm, 232, rfl⟩
abbrev main_call11_v3 : Ref sig .tc := ⟨.hbm, 233, rfl⟩
abbrev main_call11_v4 : Ref sig .tc := ⟨.hbm, 234, rfl⟩
abbrev main_v115 : Ref sig .tc := ⟨.hbm, 235, rfl⟩
abbrev main_c_57 : Ref sig .tc := ⟨.hbm, 236, rfl⟩
abbrev main_v116 : Ref sig .tc := ⟨.hbm, 237, rfl⟩
abbrev main_v117 : Ref sig .tc := ⟨.hbm, 238, rfl⟩
abbrev main_c_58 : Ref sig .tc := ⟨.hbm, 239, rfl⟩
abbrev main_v118 : Ref sig .tc := ⟨.hbm, 240, rfl⟩
abbrev main_v119 : Ref sig .tc := ⟨.hbm, 241, rfl⟩
abbrev main_v120 : Ref sig .tc := ⟨.hbm, 242, rfl⟩
abbrev main_v121 : Ref sig .tc := ⟨.hbm, 243, rfl⟩
abbrev main_v122 : Ref sig .tc := ⟨.hbm, 244, rfl⟩
abbrev main_c_59 : Ref sig .tc := ⟨.hbm, 245, rfl⟩
abbrev main_v123 : Ref sig .tc := ⟨.hbm, 246, rfl⟩
abbrev main_v124 : Ref sig .tc := ⟨.hbm, 247, rfl⟩
abbrev main_c_60 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_c_61 : Ref sig .tc := ⟨.hbm, 254, rfl⟩
abbrev main_v130 : Ref sig .tc := ⟨.hbm, 255, rfl⟩
abbrev main_v131 : Ref sig .tc := ⟨.hbm, 256, rfl⟩
abbrev main_c_62 : Ref sig .tc := ⟨.hbm, 257, rfl⟩
abbrev main_c_63 : Ref sig .tc := ⟨.hbm, 258, rfl⟩
abbrev main_call12_v0 : Ref sig .tc := ⟨.hbm, 259, rfl⟩
abbrev main_call12_v1 : Ref sig .tc := ⟨.hbm, 260, rfl⟩
abbrev main_call12_v2 : Ref sig .tc := ⟨.hbm, 261, rfl⟩
abbrev main_call12_v3 : Ref sig .tc := ⟨.hbm, 262, rfl⟩
abbrev main_call12_v4 : Ref sig .tc := ⟨.hbm, 263, rfl⟩
abbrev main_v132 : Ref sig .tc := ⟨.hbm, 264, rfl⟩
abbrev main_c_64 : Ref sig .tc := ⟨.hbm, 265, rfl⟩
abbrev main_v133 : Ref sig .tc := ⟨.hbm, 266, rfl⟩
abbrev main_v134 : Ref sig .tc := ⟨.hbm, 267, rfl⟩
abbrev main_c_65 : Ref sig .tc := ⟨.hbm, 268, rfl⟩
abbrev main_c_66 : Ref sig .tc := ⟨.hbm, 269, rfl⟩
abbrev main_call13_v0 : Ref sig .tc := ⟨.hbm, 270, rfl⟩
abbrev main_call13_v1 : Ref sig .tc := ⟨.hbm, 271, rfl⟩
abbrev main_call13_v2 : Ref sig .tc := ⟨.hbm, 272, rfl⟩
abbrev main_call13_v3 : Ref sig .tc := ⟨.hbm, 273, rfl⟩
abbrev main_call13_v4 : Ref sig .tc := ⟨.hbm, 274, rfl⟩
abbrev main_v135 : Ref sig .tc := ⟨.hbm, 275, rfl⟩
abbrev main_c_67 : Ref sig .tc := ⟨.hbm, 276, rfl⟩
abbrev main_v136 : Ref sig .tc := ⟨.hbm, 277, rfl⟩
abbrev main_v137 : Ref sig .tc := ⟨.hbm, 278, rfl⟩
abbrev main_c_68 : Ref sig .tc := ⟨.hbm, 279, rfl⟩
abbrev main_v138 : Ref sig .tc := ⟨.hbm, 280, rfl⟩
abbrev main_v139 : Ref sig .tc := ⟨.hbm, 281, rfl⟩
abbrev main_v140 : Ref sig .tc := ⟨.hbm, 282, rfl⟩
abbrev main_v141 : Ref sig .tc := ⟨.hbm, 283, rfl⟩
abbrev main_v142 : Ref sig .tc := ⟨.hbm, 284, rfl⟩
abbrev main_c_69 : Ref sig .tc := ⟨.hbm, 285, rfl⟩
abbrev main_v143 : Ref sig .tc := ⟨.hbm, 286, rfl⟩
abbrev main_v144 : Ref sig .tc := ⟨.hbm, 287, rfl⟩
abbrev main_c_70 : Ref sig .tc := ⟨.hbm, 288, rfl⟩
abbrev main_v145 : Ref sig .tc := ⟨.hbm, 289, rfl⟩
abbrev main_v146 : Ref sig .tc := ⟨.hbm, 290, rfl⟩
abbrev main_v147 : Ref sig .tc := ⟨.hbm, 291, rfl⟩
abbrev main_v148 : Ref sig .tc := ⟨.hbm, 292, rfl⟩
abbrev main_v149 : Ref sig .tc := ⟨.hbm, 293, rfl⟩
abbrev main_c_71 : Ref sig .tc := ⟨.hbm, 294, rfl⟩
abbrev main_v150 : Ref sig .tc := ⟨.hbm, 295, rfl⟩
abbrev main_v151 : Ref sig .tc := ⟨.hbm, 296, rfl⟩
abbrev main_c_72 : Ref sig .tc := ⟨.hbm, 297, rfl⟩
abbrev main_c_73 : Ref sig .tc := ⟨.hbm, 298, rfl⟩
abbrev main_call14_v0 : Ref sig .tc := ⟨.hbm, 299, rfl⟩
abbrev main_call14_v1 : Ref sig .tc := ⟨.hbm, 300, rfl⟩
abbrev main_call14_v2 : Ref sig .tc := ⟨.hbm, 301, rfl⟩
abbrev main_call14_v3 : Ref sig .tc := ⟨.hbm, 302, rfl⟩
abbrev main_call14_v4 : Ref sig .tc := ⟨.hbm, 303, rfl⟩
abbrev main_v152 : Ref sig .tc := ⟨.hbm, 304, rfl⟩
abbrev main_c_74 : Ref sig .tc := ⟨.hbm, 305, rfl⟩
abbrev main_v153 : Ref sig .tc := ⟨.hbm, 306, rfl⟩
abbrev main_v154 : Ref sig .tc := ⟨.hbm, 307, rfl⟩
abbrev main_c_75 : Ref sig .tc := ⟨.hbm, 308, rfl⟩
abbrev main_c_76 : Ref sig .tc := ⟨.hbm, 309, rfl⟩
abbrev main_call15_v0 : Ref sig .tc := ⟨.hbm, 310, rfl⟩
abbrev main_call15_v1 : Ref sig .tc := ⟨.hbm, 311, rfl⟩
abbrev main_call15_v2 : Ref sig .tc := ⟨.hbm, 312, rfl⟩
abbrev main_call15_v3 : Ref sig .tc := ⟨.hbm, 313, rfl⟩
abbrev main_call15_v4 : Ref sig .tc := ⟨.hbm, 314, rfl⟩
abbrev main_v155 : Ref sig .tc := ⟨.hbm, 315, rfl⟩
abbrev main_c_77 : Ref sig .tc := ⟨.hbm, 316, rfl⟩
abbrev main_v156 : Ref sig .tc := ⟨.hbm, 317, rfl⟩
abbrev main_v157 : Ref sig .tc := ⟨.hbm, 318, rfl⟩
abbrev main_c_78 : Ref sig .tc := ⟨.hbm, 319, rfl⟩
abbrev main_v158 : Ref sig .tc := ⟨.hbm, 320, rfl⟩
abbrev main_v159 : Ref sig .tc := ⟨.hbm, 321, rfl⟩
abbrev main_v160 : Ref sig .tc := ⟨.hbm, 322, rfl⟩
abbrev main_v161 : Ref sig .tc := ⟨.hbm, 323, rfl⟩
abbrev main_v162 : Ref sig .tc := ⟨.hbm, 324, rfl⟩
abbrev main_c_79 : Ref sig .tc := ⟨.hbm, 325, rfl⟩
abbrev main_v163 : Ref sig .tc := ⟨.hbm, 326, rfl⟩
abbrev main_v164 : Ref sig .tc := ⟨.hbm, 327, rfl⟩
abbrev main_c_80 : Ref sig .tc := ⟨.hbm, 328, rfl⟩
abbrev main_v165 : Ref sig .tc := ⟨.hbm, 329, rfl⟩
abbrev main_v166 : Ref sig .tc := ⟨.hbm, 330, rfl⟩
abbrev main_v167 : Ref sig .tc := ⟨.hbm, 331, rfl⟩
abbrev main_v168 : Ref sig .tc := ⟨.hbm, 332, rfl⟩
abbrev main_v169 : Ref sig .tc := ⟨.hbm, 333, rfl⟩
abbrev main_c_81 : Ref sig .tc := ⟨.hbm, 334, rfl⟩
abbrev main_v170 : Ref sig .tc := ⟨.hbm, 335, rfl⟩
abbrev main_v171 : Ref sig .tc := ⟨.hbm, 336, rfl⟩
abbrev main_c_82 : Ref sig .tc := ⟨.hbm, 337, rfl⟩
abbrev main_c_83 : Ref sig .tc := ⟨.hbm, 338, rfl⟩
abbrev main_call16_v0 : Ref sig .tc := ⟨.hbm, 339, rfl⟩
abbrev main_call16_v1 : Ref sig .tc := ⟨.hbm, 340, rfl⟩
abbrev main_call16_v2 : Ref sig .tc := ⟨.hbm, 341, rfl⟩
abbrev main_call16_v3 : Ref sig .tc := ⟨.hbm, 342, rfl⟩
abbrev main_call16_v4 : Ref sig .tc := ⟨.hbm, 343, rfl⟩
abbrev main_v172 : Ref sig .tc := ⟨.hbm, 344, rfl⟩
abbrev main_c_84 : Ref sig .tc := ⟨.hbm, 345, rfl⟩
abbrev main_v173 : Ref sig .tc := ⟨.hbm, 346, rfl⟩
abbrev main_v174 : Ref sig .tc := ⟨.hbm, 347, rfl⟩
abbrev main_c_85 : Ref sig .tc := ⟨.hbm, 348, rfl⟩
abbrev main_c_86 : Ref sig .tc := ⟨.hbm, 349, rfl⟩
abbrev main_call17_v0 : Ref sig .tc := ⟨.hbm, 350, rfl⟩
abbrev main_call17_v1 : Ref sig .tc := ⟨.hbm, 351, rfl⟩
abbrev main_call17_v2 : Ref sig .tc := ⟨.hbm, 352, rfl⟩
abbrev main_call17_v3 : Ref sig .tc := ⟨.hbm, 353, rfl⟩
abbrev main_call17_v4 : Ref sig .tc := ⟨.hbm, 354, rfl⟩
abbrev main_v175 : Ref sig .tc := ⟨.hbm, 355, rfl⟩
abbrev main_c_87 : Ref sig .tc := ⟨.hbm, 356, rfl⟩
abbrev main_v176 : Ref sig .tc := ⟨.hbm, 357, rfl⟩
abbrev main_v177 : Ref sig .tc := ⟨.hbm, 358, rfl⟩
abbrev main_c_88 : Ref sig .tc := ⟨.hbm, 359, rfl⟩
abbrev main_v178 : Ref sig .tc := ⟨.hbm, 360, rfl⟩
abbrev main_v179 : Ref sig .tc := ⟨.hbm, 361, rfl⟩
abbrev main_v180 : Ref sig .tc := ⟨.hbm, 362, rfl⟩
abbrev main_v181 : Ref sig .tc := ⟨.hbm, 363, rfl⟩
abbrev main_v182 : Ref sig .tc := ⟨.hbm, 364, rfl⟩
abbrev main_c_89 : Ref sig .tc := ⟨.hbm, 365, rfl⟩
abbrev main_v183 : Ref sig .tc := ⟨.hbm, 366, rfl⟩
abbrev main_v184 : Ref sig .tc := ⟨.hbm, 367, rfl⟩
abbrev main_c_90 : Ref sig .tc := ⟨.hbm, 368, rfl⟩
abbrev main_v185 : Ref sig .tc := ⟨.hbm, 369, rfl⟩
abbrev main_v186 : Ref sig .tc := ⟨.hbm, 370, rfl⟩
abbrev main_v187 : Ref sig .tc := ⟨.hbm, 371, rfl⟩
abbrev main_v188 : Ref sig .tc := ⟨.hbm, 372, rfl⟩
abbrev main_v189 : Ref sig .tc := ⟨.hbm, 373, rfl⟩
abbrev main_c_91 : Ref sig .tc := ⟨.hbm, 374, rfl⟩
abbrev main_v190 : Ref sig .tc := ⟨.hbm, 375, rfl⟩
abbrev main_v191 : Ref sig .tc := ⟨.hbm, 376, rfl⟩
abbrev main_c_92 : Ref sig .tc := ⟨.hbm, 377, rfl⟩
abbrev main_c_93 : Ref sig .tc := ⟨.hbm, 378, rfl⟩
abbrev main_call18_v0 : Ref sig .tc := ⟨.hbm, 379, rfl⟩
abbrev main_call18_v1 : Ref sig .tc := ⟨.hbm, 380, rfl⟩
abbrev main_call18_v2 : Ref sig .tc := ⟨.hbm, 381, rfl⟩
abbrev main_call18_v3 : Ref sig .tc := ⟨.hbm, 382, rfl⟩
abbrev main_call18_v4 : Ref sig .tc := ⟨.hbm, 383, rfl⟩
abbrev main_v192 : Ref sig .tc := ⟨.hbm, 384, rfl⟩
abbrev main_c_94 : Ref sig .tc := ⟨.hbm, 385, rfl⟩
abbrev main_v193 : Ref sig .tc := ⟨.hbm, 386, rfl⟩
abbrev main_v194 : Ref sig .tc := ⟨.hbm, 387, rfl⟩
abbrev main_c_95 : Ref sig .tc := ⟨.hbm, 388, rfl⟩
abbrev main_c_96 : Ref sig .tc := ⟨.hbm, 389, rfl⟩
abbrev main_call19_v0 : Ref sig .tc := ⟨.hbm, 390, rfl⟩
abbrev main_call19_v1 : Ref sig .tc := ⟨.hbm, 391, rfl⟩
abbrev main_call19_v2 : Ref sig .tc := ⟨.hbm, 392, rfl⟩
abbrev main_call19_v3 : Ref sig .tc := ⟨.hbm, 393, rfl⟩
abbrev main_call19_v4 : Ref sig .tc := ⟨.hbm, 394, rfl⟩
abbrev main_v195 : Ref sig .tc := ⟨.hbm, 395, rfl⟩
abbrev main_c_97 : Ref sig .tc := ⟨.hbm, 396, rfl⟩
abbrev main_v196 : Ref sig .tc := ⟨.hbm, 397, rfl⟩
abbrev main_v197 : Ref sig .tc := ⟨.hbm, 398, rfl⟩
abbrev main_c_98 : Ref sig .tc := ⟨.hbm, 399, rfl⟩
abbrev main_v198 : Ref sig .tc := ⟨.hbm, 400, rfl⟩
abbrev main_v199 : Ref sig .tc := ⟨.hbm, 401, rfl⟩
abbrev main_v200 : Ref sig .tc := ⟨.hbm, 402, rfl⟩
abbrev main_v201 : Ref sig .tc := ⟨.hbm, 403, rfl⟩
abbrev main_v202 : Ref sig .tc := ⟨.hbm, 404, rfl⟩
abbrev main_c_99 : Ref sig .tc := ⟨.hbm, 405, rfl⟩
abbrev main_v203 : Ref sig .tc := ⟨.hbm, 406, rfl⟩
abbrev main_v204 : Ref sig .tc := ⟨.hbm, 407, rfl⟩
abbrev main_c_100 : Ref sig .tc := ⟨.hbm, 408, rfl⟩
abbrev main_v205 : Ref sig .tc := ⟨.hbm, 409, rfl⟩
abbrev main_v206 : Ref sig .tc := ⟨.hbm, 410, rfl⟩
abbrev main_v207 : Ref sig .tc := ⟨.hbm, 411, rfl⟩
abbrev main_v208 : Ref sig .tc := ⟨.hbm, 412, rfl⟩
abbrev main_v209 : Ref sig .tc := ⟨.hbm, 413, rfl⟩
abbrev main_c_101 : Ref sig .tc := ⟨.hbm, 414, rfl⟩
abbrev main_v210 : Ref sig .tc := ⟨.hbm, 415, rfl⟩
abbrev main_v211 : Ref sig .tc := ⟨.hbm, 416, rfl⟩
abbrev main_c_102 : Ref sig .tc := ⟨.hbm, 417, rfl⟩
abbrev main_c_103 : Ref sig .tc := ⟨.hbm, 418, rfl⟩
abbrev main_call20_v0 : Ref sig .tc := ⟨.hbm, 419, rfl⟩
abbrev main_call20_v1 : Ref sig .tc := ⟨.hbm, 420, rfl⟩
abbrev main_call20_v2 : Ref sig .tc := ⟨.hbm, 421, rfl⟩
abbrev main_call20_v3 : Ref sig .tc := ⟨.hbm, 422, rfl⟩
abbrev main_call20_v4 : Ref sig .tc := ⟨.hbm, 423, rfl⟩
abbrev main_v212 : Ref sig .tc := ⟨.hbm, 424, rfl⟩
abbrev main_c_104 : Ref sig .tc := ⟨.hbm, 425, rfl⟩
abbrev main_v213 : Ref sig .tc := ⟨.hbm, 426, rfl⟩
abbrev main_v214 : Ref sig .tc := ⟨.hbm, 427, rfl⟩
abbrev main_c_105 : Ref sig .tc := ⟨.hbm, 428, rfl⟩
abbrev main_c_106 : Ref sig .tc := ⟨.hbm, 429, rfl⟩
abbrev main_call21_v0 : Ref sig .tc := ⟨.hbm, 430, rfl⟩
abbrev main_call21_v1 : Ref sig .tc := ⟨.hbm, 431, rfl⟩
abbrev main_call21_v2 : Ref sig .tc := ⟨.hbm, 432, rfl⟩
abbrev main_call21_v3 : Ref sig .tc := ⟨.hbm, 433, rfl⟩
abbrev main_call21_v4 : Ref sig .tc := ⟨.hbm, 434, rfl⟩
abbrev main_v215 : Ref sig .tc := ⟨.hbm, 435, rfl⟩
abbrev main_c_107 : Ref sig .tc := ⟨.hbm, 436, rfl⟩
abbrev main_v216 : Ref sig .tc := ⟨.hbm, 437, rfl⟩
abbrev main_v217 : Ref sig .tc := ⟨.hbm, 438, rfl⟩
abbrev main_c_108 : Ref sig .tc := ⟨.hbm, 439, rfl⟩
abbrev main_v218 : Ref sig .tc := ⟨.hbm, 440, rfl⟩
abbrev main_v219 : Ref sig .tc := ⟨.hbm, 441, rfl⟩
abbrev main_v220 : Ref sig .tc := ⟨.hbm, 442, rfl⟩
abbrev main_v221 : Ref sig .tc := ⟨.hbm, 443, rfl⟩
abbrev main_v222 : Ref sig .tc := ⟨.hbm, 444, rfl⟩
abbrev main_c_109 : Ref sig .tc := ⟨.hbm, 445, rfl⟩
abbrev main_v223 : Ref sig .tc := ⟨.hbm, 446, rfl⟩
abbrev main_v224 : Ref sig .tc := ⟨.hbm, 447, rfl⟩
abbrev main_c_110 : Ref sig .tc := ⟨.hbm, 448, rfl⟩
abbrev main_v225 : Ref sig .tc := ⟨.hbm, 449, rfl⟩
abbrev main_v226 : Ref sig .tc := ⟨.hbm, 450, rfl⟩
abbrev main_v227 : Ref sig .tc := ⟨.hbm, 451, rfl⟩
abbrev main_v228 : Ref sig .tc := ⟨.hbm, 452, rfl⟩
abbrev main_v229 : Ref sig .tc := ⟨.hbm, 453, rfl⟩
abbrev main_c_111 : Ref sig .tc := ⟨.hbm, 454, rfl⟩
abbrev main_v230 : Ref sig .tc := ⟨.hbm, 455, rfl⟩
abbrev main_v231 : Ref sig .tc := ⟨.hbm, 456, rfl⟩
abbrev main_c_112 : Ref sig .tc := ⟨.hbm, 457, rfl⟩
abbrev main_c_113 : Ref sig .tc := ⟨.hbm, 458, rfl⟩
abbrev main_call22_v0 : Ref sig .tc := ⟨.hbm, 459, rfl⟩
abbrev main_call22_v1 : Ref sig .tc := ⟨.hbm, 460, rfl⟩
abbrev main_call22_v2 : Ref sig .tc := ⟨.hbm, 461, rfl⟩
abbrev main_call22_v3 : Ref sig .tc := ⟨.hbm, 462, rfl⟩
abbrev main_call22_v4 : Ref sig .tc := ⟨.hbm, 463, rfl⟩
abbrev main_v232 : Ref sig .tc := ⟨.hbm, 464, rfl⟩
abbrev main_c_114 : Ref sig .tc := ⟨.hbm, 465, rfl⟩
abbrev main_v233 : Ref sig .tc := ⟨.hbm, 466, rfl⟩
abbrev main_v234 : Ref sig .tc := ⟨.hbm, 467, rfl⟩
abbrev main_c_115 : Ref sig .tc := ⟨.hbm, 468, rfl⟩
abbrev main_c_116 : Ref sig .tc := ⟨.hbm, 469, rfl⟩
abbrev main_call23_v0 : Ref sig .tc := ⟨.hbm, 470, rfl⟩
abbrev main_call23_v1 : Ref sig .tc := ⟨.hbm, 471, rfl⟩
abbrev main_call23_v2 : Ref sig .tc := ⟨.hbm, 472, rfl⟩
abbrev main_call23_v3 : Ref sig .tc := ⟨.hbm, 473, rfl⟩
abbrev main_call23_v4 : Ref sig .tc := ⟨.hbm, 474, rfl⟩
abbrev main_v235 : Ref sig .tc := ⟨.hbm, 475, rfl⟩
abbrev main_c_117 : Ref sig .tc := ⟨.hbm, 476, rfl⟩
abbrev main_v236 : Ref sig .tc := ⟨.hbm, 477, rfl⟩
abbrev main_v237 : Ref sig .tc := ⟨.hbm, 478, rfl⟩
abbrev main_c_118 : Ref sig .tc := ⟨.hbm, 479, rfl⟩
abbrev main_v238 : Ref sig .tc := ⟨.hbm, 480, rfl⟩
abbrev main_v239 : Ref sig .tc := ⟨.hbm, 481, rfl⟩
abbrev main_v240 : Ref sig .tc := ⟨.hbm, 482, rfl⟩
abbrev main_v241 : Ref sig .tc := ⟨.hbm, 483, rfl⟩
abbrev main_v242 : Ref sig .tc := ⟨.hbm, 484, rfl⟩
abbrev main_c_119 : Ref sig .tc := ⟨.hbm, 485, rfl⟩
abbrev main_v243 : Ref sig .tc := ⟨.hbm, 486, rfl⟩
abbrev main_v244 : Ref sig .tc := ⟨.hbm, 487, rfl⟩
abbrev main_c_120 : Ref sig .tc := ⟨.hbm, 488, rfl⟩
abbrev main_v245 : Ref sig .tc := ⟨.hbm, 489, rfl⟩
abbrev main_v246 : Ref sig .tc := ⟨.hbm, 490, rfl⟩
abbrev main_v247 : Ref sig .tc := ⟨.hbm, 491, rfl⟩
abbrev main_v248 : Ref sig .tc := ⟨.hbm, 492, rfl⟩
abbrev main_v249 : Ref sig .tc := ⟨.hbm, 493, rfl⟩
abbrev main_c_121 : Ref sig .tc := ⟨.hbm, 494, rfl⟩
abbrev main_v250 : Ref sig .tc := ⟨.hbm, 495, rfl⟩
abbrev main_v251 : Ref sig .tc := ⟨.hbm, 496, rfl⟩
abbrev main_c_122 : Ref sig .tc := ⟨.hbm, 497, rfl⟩
abbrev main_c_123 : Ref sig .tc := ⟨.hbm, 498, rfl⟩
abbrev main_call24_v0 : Ref sig .tc := ⟨.hbm, 499, rfl⟩
abbrev main_call24_v1 : Ref sig .tc := ⟨.hbm, 500, rfl⟩
abbrev main_call24_v2 : Ref sig .tc := ⟨.hbm, 501, rfl⟩
abbrev main_call24_v3 : Ref sig .tc := ⟨.hbm, 502, rfl⟩
abbrev main_call24_v4 : Ref sig .tc := ⟨.hbm, 503, rfl⟩
abbrev main_v252 : Ref sig .tc := ⟨.hbm, 504, rfl⟩
abbrev main_c_124 : Ref sig .tc := ⟨.hbm, 505, rfl⟩
abbrev main_v253 : Ref sig .tc := ⟨.hbm, 506, rfl⟩
abbrev main_v254 : Ref sig .tc := ⟨.hbm, 507, rfl⟩
abbrev main_c_125 : Ref sig .tc := ⟨.hbm, 508, rfl⟩
abbrev main_c_126 : Ref sig .tc := ⟨.hbm, 509, rfl⟩
abbrev main_call25_v0 : Ref sig .tc := ⟨.hbm, 510, rfl⟩
abbrev main_call25_v1 : Ref sig .tc := ⟨.hbm, 511, rfl⟩
abbrev main_call25_v2 : Ref sig .tc := ⟨.hbm, 512, rfl⟩
abbrev main_call25_v3 : Ref sig .tc := ⟨.hbm, 513, rfl⟩
abbrev main_call25_v4 : Ref sig .tc := ⟨.hbm, 514, rfl⟩
abbrev main_v255 : Ref sig .tc := ⟨.hbm, 515, rfl⟩
abbrev main_c_127 : Ref sig .tc := ⟨.hbm, 516, rfl⟩
abbrev main_v256 : Ref sig .tc := ⟨.hbm, 517, rfl⟩
abbrev main_v257 : Ref sig .tc := ⟨.hbm, 518, rfl⟩
abbrev main_c_128 : Ref sig .tc := ⟨.hbm, 519, rfl⟩
abbrev main_v258 : Ref sig .tc := ⟨.hbm, 520, rfl⟩
abbrev main_v259 : Ref sig .tc := ⟨.hbm, 521, rfl⟩
abbrev main_v260 : Ref sig .tc := ⟨.hbm, 522, rfl⟩
abbrev main_v261 : Ref sig .tc := ⟨.hbm, 523, rfl⟩
abbrev main_v262 : Ref sig .tc := ⟨.hbm, 524, rfl⟩
abbrev main_c_129 : Ref sig .tc := ⟨.hbm, 525, rfl⟩
abbrev main_v263 : Ref sig .tc := ⟨.hbm, 526, rfl⟩
abbrev main_v264 : Ref sig .tc := ⟨.hbm, 527, rfl⟩
abbrev main_c_130 : Ref sig .tc := ⟨.hbm, 528, rfl⟩
abbrev main_v265 : Ref sig .tc := ⟨.hbm, 529, rfl⟩
abbrev main_v266 : Ref sig .tc := ⟨.hbm, 530, rfl⟩
abbrev main_v267 : Ref sig .tc := ⟨.hbm, 531, rfl⟩
abbrev main_v268 : Ref sig .tc := ⟨.hbm, 532, rfl⟩
abbrev main_v269 : Ref sig .tc := ⟨.hbm, 533, rfl⟩
abbrev main_c_131 : Ref sig .tc := ⟨.hbm, 534, rfl⟩
abbrev main_v270 : Ref sig .tc := ⟨.hbm, 535, rfl⟩
abbrev main_v271 : Ref sig .tc := ⟨.hbm, 536, rfl⟩
abbrev main_c_132 : Ref sig .tc := ⟨.hbm, 537, rfl⟩
abbrev main_c_133 : Ref sig .tc := ⟨.hbm, 538, rfl⟩
abbrev main_call26_v0 : Ref sig .tc := ⟨.hbm, 539, rfl⟩
abbrev main_call26_v1 : Ref sig .tc := ⟨.hbm, 540, rfl⟩
abbrev main_call26_v2 : Ref sig .tc := ⟨.hbm, 541, rfl⟩
abbrev main_call26_v3 : Ref sig .tc := ⟨.hbm, 542, rfl⟩
abbrev main_call26_v4 : Ref sig .tc := ⟨.hbm, 543, rfl⟩
abbrev main_v272 : Ref sig .tc := ⟨.hbm, 544, rfl⟩
abbrev main_c_134 : Ref sig .tc := ⟨.hbm, 545, rfl⟩
abbrev main_v273 : Ref sig .tc := ⟨.hbm, 546, rfl⟩
abbrev main_v274 : Ref sig .tc := ⟨.hbm, 547, rfl⟩
abbrev main_c_135 : Ref sig .tc := ⟨.hbm, 548, rfl⟩
abbrev main_c_136 : Ref sig .tc := ⟨.hbm, 549, rfl⟩
abbrev main_call27_v0 : Ref sig .tc := ⟨.hbm, 550, rfl⟩
abbrev main_call27_v1 : Ref sig .tc := ⟨.hbm, 551, rfl⟩
abbrev main_call27_v2 : Ref sig .tc := ⟨.hbm, 552, rfl⟩
abbrev main_call27_v3 : Ref sig .tc := ⟨.hbm, 553, rfl⟩
abbrev main_call27_v4 : Ref sig .tc := ⟨.hbm, 554, rfl⟩
abbrev main_v275 : Ref sig .tc := ⟨.hbm, 555, rfl⟩
abbrev main_c_137 : Ref sig .tc := ⟨.hbm, 556, rfl⟩
abbrev main_v276 : Ref sig .tc := ⟨.hbm, 557, rfl⟩
abbrev main_v277 : Ref sig .tc := ⟨.hbm, 558, rfl⟩
abbrev main_c_138 : Ref sig .tc := ⟨.hbm, 559, rfl⟩
abbrev main_v278 : Ref sig .tc := ⟨.hbm, 560, rfl⟩
abbrev main_v279 : Ref sig .tc := ⟨.hbm, 561, rfl⟩
abbrev main_v280 : Ref sig .tc := ⟨.hbm, 562, rfl⟩
abbrev main_v281 : Ref sig .tc := ⟨.hbm, 563, rfl⟩
abbrev main_v282 : Ref sig .tc := ⟨.hbm, 564, rfl⟩
abbrev main_c_139 : Ref sig .tc := ⟨.hbm, 565, rfl⟩
abbrev main_v283 : Ref sig .tc := ⟨.hbm, 566, rfl⟩
abbrev main_v284 : Ref sig .tc := ⟨.hbm, 567, rfl⟩
abbrev main_c_140 : Ref sig .tc := ⟨.hbm, 568, rfl⟩
abbrev main_v285 : Ref sig .tc := ⟨.hbm, 569, rfl⟩
abbrev main_v286 : Ref sig .tc := ⟨.hbm, 570, rfl⟩
abbrev main_v287 : Ref sig .tc := ⟨.hbm, 571, rfl⟩
abbrev main_v288 : Ref sig .tc := ⟨.hbm, 572, rfl⟩
abbrev main_v289 : Ref sig .tc := ⟨.hbm, 573, rfl⟩
abbrev main_c_141 : Ref sig .tc := ⟨.hbm, 574, rfl⟩
abbrev main_v290 : Ref sig .tc := ⟨.hbm, 575, rfl⟩
abbrev main_v291 : Ref sig .tc := ⟨.hbm, 576, rfl⟩
abbrev main_c_142 : Ref sig .tc := ⟨.hbm, 577, rfl⟩
abbrev main_c_143 : Ref sig .tc := ⟨.hbm, 578, rfl⟩
abbrev main_call28_v0 : Ref sig .tc := ⟨.hbm, 579, rfl⟩
abbrev main_call28_v1 : Ref sig .tc := ⟨.hbm, 580, rfl⟩
abbrev main_call28_v2 : Ref sig .tc := ⟨.hbm, 581, rfl⟩
abbrev main_call28_v3 : Ref sig .tc := ⟨.hbm, 582, rfl⟩
abbrev main_call28_v4 : Ref sig .tc := ⟨.hbm, 583, rfl⟩
abbrev main_v292 : Ref sig .tc := ⟨.hbm, 584, rfl⟩
abbrev main_c_144 : Ref sig .tc := ⟨.hbm, 585, rfl⟩
abbrev main_v293 : Ref sig .tc := ⟨.hbm, 586, rfl⟩
abbrev main_v294 : Ref sig .tc := ⟨.hbm, 587, rfl⟩
abbrev main_c_145 : Ref sig .tc := ⟨.hbm, 588, rfl⟩
abbrev main_c_146 : Ref sig .tc := ⟨.hbm, 589, rfl⟩
abbrev main_call29_v0 : Ref sig .tc := ⟨.hbm, 590, rfl⟩
abbrev main_call29_v1 : Ref sig .tc := ⟨.hbm, 591, rfl⟩
abbrev main_call29_v2 : Ref sig .tc := ⟨.hbm, 592, rfl⟩
abbrev main_call29_v3 : Ref sig .tc := ⟨.hbm, 593, rfl⟩
abbrev main_call29_v4 : Ref sig .tc := ⟨.hbm, 594, rfl⟩
abbrev main_v295 : Ref sig .tc := ⟨.hbm, 595, rfl⟩
abbrev main_c_147 : Ref sig .tc := ⟨.hbm, 596, rfl⟩
abbrev main_v296 : Ref sig .tc := ⟨.hbm, 597, rfl⟩
abbrev main_v297 : Ref sig .tc := ⟨.hbm, 598, rfl⟩
abbrev main_c_148 : Ref sig .tc := ⟨.hbm, 599, rfl⟩
abbrev main_v298 : Ref sig .tc := ⟨.hbm, 600, rfl⟩
abbrev main_v299 : Ref sig .tc := ⟨.hbm, 601, rfl⟩
abbrev main_v300 : Ref sig .tc := ⟨.hbm, 602, rfl⟩
abbrev main_v301 : Ref sig .tc := ⟨.hbm, 603, rfl⟩
abbrev main_v302 : Ref sig .tc := ⟨.hbm, 604, rfl⟩
abbrev main_c_149 : Ref sig .tc := ⟨.hbm, 605, rfl⟩
abbrev main_v303 : Ref sig .tc := ⟨.hbm, 606, rfl⟩
abbrev main_v304 : Ref sig .tc := ⟨.hbm, 607, rfl⟩
abbrev main_c_150 : Ref sig .tc := ⟨.hbm, 608, rfl⟩
abbrev main_v305 : Ref sig .tc := ⟨.hbm, 609, rfl⟩
abbrev main_v306 : Ref sig .tc := ⟨.hbm, 610, rfl⟩
abbrev main_v307 : Ref sig .tc := ⟨.hbm, 611, rfl⟩
abbrev main_v308 : Ref sig .tc := ⟨.hbm, 612, rfl⟩
abbrev main_v309 : Ref sig .tc := ⟨.hbm, 613, rfl⟩
abbrev main_c_151 : Ref sig .tc := ⟨.hbm, 614, rfl⟩
abbrev main_v310 : Ref sig .tc := ⟨.hbm, 615, rfl⟩
abbrev main_v311 : Ref sig .tc := ⟨.hbm, 616, rfl⟩
abbrev main_c_152 : Ref sig .tc := ⟨.hbm, 617, rfl⟩
abbrev main_c_153 : Ref sig .tc := ⟨.hbm, 618, rfl⟩
abbrev main_call30_v0 : Ref sig .tc := ⟨.hbm, 619, rfl⟩
abbrev main_call30_v1 : Ref sig .tc := ⟨.hbm, 620, rfl⟩
abbrev main_call30_v2 : Ref sig .tc := ⟨.hbm, 621, rfl⟩
abbrev main_call30_v3 : Ref sig .tc := ⟨.hbm, 622, rfl⟩
abbrev main_call30_v4 : Ref sig .tc := ⟨.hbm, 623, rfl⟩
abbrev main_v312 : Ref sig .tc := ⟨.hbm, 624, rfl⟩
abbrev main_c_154 : Ref sig .tc := ⟨.hbm, 625, rfl⟩
abbrev main_v313 : Ref sig .tc := ⟨.hbm, 626, rfl⟩
abbrev main_v314 : Ref sig .tc := ⟨.hbm, 627, rfl⟩
abbrev main_c_155 : Ref sig .tc := ⟨.hbm, 628, rfl⟩
abbrev main_c_156 : Ref sig .tc := ⟨.hbm, 629, rfl⟩
abbrev main_call31_v0 : Ref sig .tc := ⟨.hbm, 630, rfl⟩
abbrev main_call31_v1 : Ref sig .tc := ⟨.hbm, 631, rfl⟩
abbrev main_call31_v2 : Ref sig .tc := ⟨.hbm, 632, rfl⟩
abbrev main_call31_v3 : Ref sig .tc := ⟨.hbm, 633, rfl⟩
abbrev main_call31_v4 : Ref sig .tc := ⟨.hbm, 634, rfl⟩
abbrev main_v315 : Ref sig .tc := ⟨.hbm, 635, rfl⟩
abbrev main_c_157 : Ref sig .tc := ⟨.hbm, 636, rfl⟩
abbrev main_v316 : Ref sig .tc := ⟨.hbm, 637, rfl⟩
abbrev main_v317 : Ref sig .tc := ⟨.hbm, 638, rfl⟩
abbrev main_c_158 : Ref sig .tc := ⟨.hbm, 639, rfl⟩
abbrev main_v318 : Ref sig .tc := ⟨.hbm, 640, rfl⟩
abbrev main_v319 : Ref sig .tc := ⟨.hbm, 641, rfl⟩
abbrev main_v320 : Ref sig .tc := ⟨.hbm, 642, rfl⟩
abbrev main_v321 : Ref sig .tc := ⟨.hbm, 643, rfl⟩
abbrev main_v322 : Ref sig .tc := ⟨.hbm, 644, rfl⟩
abbrev main_c_159 : Ref sig .tc := ⟨.hbm, 645, rfl⟩
abbrev main_v323 : Ref sig .tc := ⟨.hbm, 646, rfl⟩
abbrev main_v324 : Ref sig .tc := ⟨.hbm, 647, rfl⟩
abbrev main_c_160 : Ref sig .tc := ⟨.hbm, 648, rfl⟩
abbrev main_v325 : Ref sig .tc := ⟨.hbm, 649, rfl⟩
abbrev main_v326 : Ref sig .tc := ⟨.hbm, 650, rfl⟩
abbrev main_v327 : Ref sig .tc := ⟨.hbm, 651, rfl⟩
abbrev main_v328 : Ref sig .tc := ⟨.hbm, 652, rfl⟩
abbrev main_v329 : Ref sig .tc := ⟨.hbm, 653, rfl⟩
abbrev main_c_161 : Ref sig .tc := ⟨.hbm, 654, rfl⟩
abbrev main_v330 : Ref sig .tc := ⟨.hbm, 655, rfl⟩
abbrev main_v331 : Ref sig .tc := ⟨.hbm, 656, rfl⟩
abbrev main_c_162 : Ref sig .tc := ⟨.hbm, 657, rfl⟩
abbrev main_c_163 : Ref sig .tc := ⟨.hbm, 658, rfl⟩
abbrev main_call32_v0 : Ref sig .tc := ⟨.hbm, 659, rfl⟩
abbrev main_call32_v1 : Ref sig .tc := ⟨.hbm, 660, rfl⟩
abbrev main_call32_v2 : Ref sig .tc := ⟨.hbm, 661, rfl⟩
abbrev main_call32_v3 : Ref sig .tc := ⟨.hbm, 662, rfl⟩
abbrev main_call32_v4 : Ref sig .tc := ⟨.hbm, 663, rfl⟩
abbrev main_v332 : Ref sig .tc := ⟨.hbm, 664, rfl⟩
abbrev main_c_164 : Ref sig .tc := ⟨.hbm, 665, rfl⟩
abbrev main_v333 : Ref sig .tc := ⟨.hbm, 666, rfl⟩
abbrev main_v334 : Ref sig .tc := ⟨.hbm, 667, rfl⟩
abbrev main_c_165 : Ref sig .tc := ⟨.hbm, 668, rfl⟩
abbrev main_c_166 : Ref sig .tc := ⟨.hbm, 669, rfl⟩
abbrev main_call33_v0 : Ref sig .tc := ⟨.hbm, 670, rfl⟩
abbrev main_call33_v1 : Ref sig .tc := ⟨.hbm, 671, rfl⟩
abbrev main_call33_v2 : Ref sig .tc := ⟨.hbm, 672, rfl⟩
abbrev main_call33_v3 : Ref sig .tc := ⟨.hbm, 673, rfl⟩
abbrev main_call33_v4 : Ref sig .tc := ⟨.hbm, 674, rfl⟩
abbrev main_v335 : Ref sig .tc := ⟨.hbm, 675, rfl⟩
abbrev main_c_167 : Ref sig .tc := ⟨.hbm, 676, rfl⟩
abbrev main_v336 : Ref sig .tc := ⟨.hbm, 677, rfl⟩
abbrev main_v337 : Ref sig .tc := ⟨.hbm, 678, rfl⟩
abbrev main_c_168 : Ref sig .tc := ⟨.hbm, 679, rfl⟩
abbrev main_v338 : Ref sig .tc := ⟨.hbm, 680, rfl⟩
abbrev main_v339 : Ref sig .tc := ⟨.hbm, 681, rfl⟩
abbrev main_v340 : Ref sig .tc := ⟨.hbm, 682, rfl⟩
abbrev main_v341 : Ref sig .tc := ⟨.hbm, 683, rfl⟩
abbrev main_v342 : Ref sig .tc := ⟨.hbm, 684, rfl⟩
abbrev main_c_169 : Ref sig .tc := ⟨.hbm, 685, rfl⟩
abbrev main_v343 : Ref sig .tc := ⟨.hbm, 686, rfl⟩
abbrev main_v344 : Ref sig .tc := ⟨.hbm, 687, rfl⟩
abbrev main_c_170 : Ref sig .tc := ⟨.hbm, 688, rfl⟩
abbrev main_v345 : Ref sig .tc := ⟨.hbm, 689, rfl⟩
abbrev main_v346 : Ref sig .tc := ⟨.hbm, 690, rfl⟩
abbrev main_v347 : Ref sig .tc := ⟨.hbm, 691, rfl⟩
abbrev main_v348 : Ref sig .tc := ⟨.hbm, 692, rfl⟩
abbrev main_v349 : Ref sig .tc := ⟨.hbm, 693, rfl⟩
abbrev main_v350 : Ref sig .tc := ⟨.hbm, 694, rfl⟩
abbrev main_v351 : Ref sig .tc := ⟨.hbm, 695, rfl⟩
abbrev main_v352 : Ref sig .tc := ⟨.hbm, 696, rfl⟩
abbrev main_v353 : Ref sig .tc := ⟨.hbm, 697, rfl⟩
abbrev main_v354 : Ref sig .tc := ⟨.hbm, 698, rfl⟩
abbrev main_v355 : Ref sig .tc := ⟨.hbm, 699, rfl⟩
abbrev main_v356 : Ref sig .tc := ⟨.hbm, 700, rfl⟩
abbrev main_v357 : Ref sig .tc := ⟨.hbm, 701, rfl⟩
abbrev main_v358 : Ref sig .tc := ⟨.hbm, 702, rfl⟩
abbrev main_v359 : Ref sig .tc := ⟨.hbm, 703, rfl⟩
abbrev main_v360 : Ref sig .tc := ⟨.hbm, 704, rfl⟩
abbrev main_v361 : Ref sig .tc := ⟨.hbm, 705, rfl⟩
abbrev main_v362 : Ref sig .tc := ⟨.hbm, 706, rfl⟩
abbrev main_v363 : Ref sig .tc := ⟨.hbm, 707, rfl⟩
abbrev main_v364 : Ref sig .tc := ⟨.hbm, 708, rfl⟩
abbrev main_v365 : Ref sig .tc := ⟨.hbm, 709, rfl⟩
abbrev main_v366 : Ref sig .tc := ⟨.hbm, 710, rfl⟩
abbrev main_v367 : Ref sig .tc := ⟨.hbm, 711, rfl⟩
abbrev main_v368 : Ref sig .tc := ⟨.hbm, 712, rfl⟩
abbrev main_cst_171 : Ref sig .tc := ⟨.hbm, 713, rfl⟩
abbrev main_v369 : Ref sig .tc := ⟨.hbm, 714, rfl⟩
abbrev main_v370 : Ref sig .tc := ⟨.hbm, 715, rfl⟩
abbrev main_v371 : Ref sig .tc := ⟨.hbm, 716, rfl⟩

abbrev nD : Nat := 1
abbrev τ : Topo := Topo.v7x

variable {F : FTy → Type} [FloatOps F]
-- ==== Proof.Clamp.lean ====
/- The clamped coordinate along an image axis of 37 points, and what moving a block along an axis with the
   edge repeated does to an index. -/
module
public import proofs.«01_k».proof.KernelIdeal
public import Idealize.ShloMosaic.Lib.ValueIdx
public import Idealize.ShloMosaic.Lib.Pointwise
@[expose] public section
set_option maxRecDepth 16384
noncomputable section
namespace Cert.LogBin
open Idealize.ShloMosaic
open Cert.KernelIdeal

/-- The coordinate `y + d`, moved to the nearest of `0 … 36`. -/
def cl (d : Int) (y : Fin 37) : Fin 37 := ⟨(min 36 (max 0 ((y.val : Int) + d))).toNat, by omega⟩

/-- The clamped coordinate as a number. -/
theorem cl_val (d : Int) (y : Fin 37) : (cl d y).val = (min 36 (max 0 ((y.val : Int) + d))).toNat := rfl

/-- With `d = 0` nothing moves. -/
theorem cl_zero (y : Fin 37) : cl 0 y = y := Fin.ext (by rw [cl_val]; omega)

variable {α : Type}

/-- The value of `f` one place before `y`, and `z` where there is none. -/
def nbm (z : α) (f : Fin 37 → α) (y : Fin 37) : α := if h : y.val < 1 then z else f ⟨y.val - 1, by omega⟩

/-- The value of `f` one place after `y`, and `z` where there is none. -/
def nbp (z : α) (f : Fin 37 → α) (y : Fin 37) : α := if h : y.val < 36 then f ⟨1 + y.val, by omega⟩ else z

/-- The block cut and glued so that each column reads the column at one place before it, with the first column
    repeated at the edge: it reads at the clamped coordinate. -/
theorem shX_m1 (v : S32x37x37.Idx → α) (h₁ : S32x37x37.Slices ![0, 0, 0] S32x37x1)
    (h₂ : S32x37x37.Slices ![0, 0, 0] S32x37x36) (h : Shape.Concatenates [S32x37x1, S32x37x36] S32x37x37 2) :
    concatenate S32x37x37 2 [⟨S32x37x1, extractStridedSlice S32x37x1 ![0, 0, 0] v h₁⟩,
      ⟨S32x37x36, extractStridedSlice S32x37x36 ![0, 0, 0] v h₂⟩] h
      = fun j => v (ix3 (j 0) (j 1) (cl (-1) (j 2))) := by
  funext j
  obtain ⟨a, b, c, rfl⟩ : ∃ a b c, j = ix3 a b c := ⟨j 0, j 1, j 2, ValueIdx.eq_ix3 j⟩
  pointwise
  split_ifs <;> exact congrArg (fun k => v (ix3 a b k)) (Fin.ext (by simp only [cl_val]; omega))

/-- The block cut and glued so that each column reads the column before it, and `z` where there is none. -/
theorem zshX_m1 (v : S32x37x37.Idx → α) (z : α)
    (h₂ : S32x37x37.Slices ![0, 0, 0] S32x37x36) (h : Shape.Concatenates [S32x37x1, S32x37x36] S32x37x37 2) :
    concatenate S32x37x37 2 [⟨S32x37x1, broadcast S32x37x1 z⟩,
      ⟨S32x37x36, extractStridedSlice S32x37x36 ![0, 0, 0] v h₂⟩] h
      = fun j => nbm z (fun k => v (ix3 (j 0) (j 1) k)) (j 2) := by
  funext j
  obtain ⟨a, b, c, rfl⟩ : ∃ a b c, j = ix3 a b c := ⟨j 0, j 1, j 2, ValueIdx.eq_ix3 j⟩
  pointwise
  unfold nbm
  split_ifs <;> first | rfl | omega | exact congrArg (fun k => v (ix3 a b k)) (Fin.ext (by simp only []; omega))

/-- The block cut and glued so that each column reads the column at one place after it, with the last column
    repeated at the edge: it reads at the clamped coordinate. -/
theorem shX_p1 (v : S32x37x37.Idx → α) (h₁ : S32x37x37.Slices ![0, 0, 36] S32x37x1)
    (h₂ : S32x37x37.Slices ![0, 0, 1] S32x37x36) (h : Shape.Concatenates [S32x37x36, S32x37x1] S32x37x37 2) :
    concatenate S32x37x37 2 [⟨S32x37x36, extractStridedSlice S32x37x36 ![0, 0, 1] v h₂⟩,
      ⟨S32x37x1, extractStridedSlice S32x37x1 ![0, 0, 36] v h₁⟩] h
      = fun j => v (ix3 (j 0) (j 1) (cl (1) (j 2))) := by
  funext j
  obtain ⟨a, b, c, rfl⟩ : ∃ a b c, j = ix3 a b c := ⟨j 0, j 1, j 2, ValueIdx.eq_ix3 j⟩
  pointwise
  split_ifs <;> exact congrArg (fun k => v (ix3 a b k)) (Fin.ext (by simp only [cl_val]; omega))

/-- The block cut and glued so that each column reads the column after it, and `z` where there is none. -/
theorem zshX_p1 (v : S32x37x37.Idx → α) (z : α)
    (h₂ : S32x37x37.Slices ![0, 0, 1] S32x37x36) (h : Shape.Concatenates [S32x37x36, S32x37x1] S32x37x37 2) :
    concatenate S32x37x37 2 [⟨S32x37x36, extractStridedSlice S32x37x36 ![0, 0, 1] v h₂⟩,
      ⟨S32x37x1, broadcast S32x37x1 z⟩] h
      = fun j => nbp z (fun k => v (ix3 (j 0) (j 1) k)) (j 2) := by
  funext j
  obtain ⟨a, b, c, rfl⟩ : ∃ a b c, j = ix3 a b c := ⟨j 0, j 1, j 2, ValueIdx.eq_ix3 j⟩
  pointwise
  unfold nbp
  split_ifs <;> first | rfl | omega | exact congrArg (fun k => v (ix3 a b k)) (Fin.ext (by simp only []; omega))

/-- The block cut and glued so that each column reads the column at three places before it, with the first column
    repeated at the edge: it reads at the clamped coordinate. -/
theorem shX_m3 (v : S32x37x37.Idx → α) (h₁ : S32x37x37.Slices ![0, 0, 0] S32x37x1)
    (h₂ : S32x37x37.Slices ![0, 0, 0] S32x37x34) (h : Shape.Concatenates [S32x37x1, S32x37x1, S32x37x1, S32x37x34] S32x37x37 2) :
    concatenate S32x37x37 2 [⟨S32x37x1, extractStridedSlice S32x37x1 ![0, 0, 0] v h₁⟩,
      ⟨S32x37x1, extractStridedSlice S32x37x1 ![0, 0, 0] v h₁⟩,
      ⟨S32x37x1, extractStridedSlice S32x37x1 ![0, 0, 0] v h₁⟩,
      ⟨S32x37x34, extractStridedSlice S32x37x34 ![0, 0, 0] v h₂⟩] h
      = fun j => v (ix3 (j 0) (j 1) (cl (-3) (j 2))) := by
  funext j
  obtain ⟨a, b, c, rfl⟩ : ∃ a b c, j = ix3 a b c := ⟨j 0, j 1, j 2, ValueIdx.eq_ix3 j⟩
  pointwise
  split_ifs <;> exact congrArg (fun k => v (ix3 a b k)) (Fin.ext (by simp only [cl_val]; omega))

/-- The block cut and glued so that each column reads the column at three places after it, with the last column
    repeated at the edge: it reads at the clamped coordinate. -/
theorem shX_p3 (v : S32x37x37.Idx → α) (h₁ : S32x37x37.Slices ![0, 0, 36] S32x37x1)
    (h₂ : S32x37x37.Slices ![0, 0, 3] S32x37x34) (h : Shape.Concatenates [S32x37x34, S32x37x1, S32x37x1, S32x37x1] S32x37x37 2) :
    concatenate S32x37x37 2 [⟨S32x37x34, extractStridedSlice S32x37x34 ![0, 0, 3] v h₂⟩,
      ⟨S32x37x1, extractStridedSlice S32x37x1 ![0, 0, 36] v h₁⟩,
      ⟨S32x37x1, extractStridedSlice S32x37x1 ![0, 0, 36] v h₁⟩,
      ⟨S32x37x1, extractStridedSlice S32x37x1 ![0, 0, 36] v h₁⟩] h
      = fun j => v (ix3 (j 0) (j 1) (cl (3) (j 2))) := by
  funext j
  obtain ⟨a, b, c, rfl⟩ : ∃ a b c, j = ix3 a b c := ⟨j 0, j 1, j 2, ValueIdx.eq_ix3 j⟩
  pointwise
  split_ifs <;> exact congrArg (fun k => v (ix3 a b k)) (Fin.ext (by simp only [cl_val]; omega))

/-- The block cut and glued so that each row reads the row at one place before it, with the first row
    repeated at the edge: it reads at the clamped coordinate. -/
theorem shY_m1 (v : S32x37x37.Idx → α) (h₁ : S32x37x37.Slices ![0, 0, 0] S32x1x37)
    (h₂ : S32x37x37.Slices ![0, 0, 0] S32x36x37) (h : Shape.Concatenates [S32x1x37, S32x36x37] S32x37x37 1) :
    concatenate S32x37x37 1 [⟨S32x1x37, extractStridedSlice S32x1x37 ![0, 0, 0] v h₁⟩,
      ⟨S32x36x37, extractStridedSlice S32x36x37 ![0, 0, 0] v h₂⟩] h
      = fun j => v (ix3 (j 0) (cl (-1) (j 1)) (j 2)) := by
  funext j
  obtain ⟨a, b, c, rfl⟩ : ∃ a b c, j = ix3 a b c := ⟨j 0, j 1, j 2, ValueIdx.eq_ix3 j⟩
  pointwise
  split_ifs <;> exact congrArg (fun k => v (ix3 a k c)) (Fin.ext (by simp only [cl_val]; omega))

/-- The block cut and glued so that each row reads the row before it, and `z` where there is none. -/
theorem zshY_m1 (v : S32x37x37.Idx → α) (z : α)
    (h₂ : S32x37x37.Slices ![0, 0, 0] S32x36x37) (h : Shape.Concatenates [S32x1x37, S32x36x37] S32x37x37 1) :
    concatenate S32x37x37 1 [⟨S32x1x37, broadcast S32x1x37 z⟩,
      ⟨S32x36x37, extractStridedSlice S32x36x37 ![0, 0, 0] v h₂⟩] h
      = fun j => nbm z (fun k => v (ix3 (j 0) k (j 2))) (j 1) := by
  funext j
  obtain ⟨a, b, c, rfl⟩ : ∃ a b c, j = ix3 a b c := ⟨j 0, j 1, j 2, ValueIdx.eq_ix3 j⟩
  pointwise
  unfold nbm
  split_ifs <;> first | rfl | omega | exact congrArg (fun k => v (ix3 a k c)) (Fin.ext (by simp only []; omega))

/-- The block cut and glued so that each row reads the row at one place after it, with the last row
    repeated at the edge: it reads at the clamped coordinate. -/
theorem shY_p1 (v : S32x37x37.Idx → α) (h₁ : S32x37x37.Slices ![0, 36, 0] S32x1x37)
    (h₂ : S32x37x37.Slices ![0, 1, 0] S32x36x37) (h : Shape.Concatenates [S32x36x37, S32x1x37] S32x37x37 1) :
    concatenate S32x37x37 1 [⟨S32x36x37, extractStridedSlice S32x36x37 ![0, 1, 0] v h₂⟩,
      ⟨S32x1x37, extractStridedSlice S32x1x37 ![0, 36, 0] v h₁⟩] h
      = fun j => v (ix3 (j 0) (cl (1) (j 1)) (j 2)) := by
  funext j
  obtain ⟨a, b, c, rfl⟩ : ∃ a b c, j = ix3 a b c := ⟨j 0, j 1, j 2, ValueIdx.eq_ix3 j⟩
  pointwise
  split_ifs <;> exact congrArg (fun k => v (ix3 a k c)) (Fin.ext (by simp only [cl_val]; omega))

/-- The block cut and glued so that each row reads the row after it, and `z` where there is none. -/
theorem zshY_p1 (v : S32x37x37.Idx → α) (z : α)
    (h₂ : S32x37x37.Slices ![0, 1, 0] S32x36x37) (h : Shape.Concatenates [S32x36x37, S32x1x37] S32x37x37 1) :
    concatenate S32x37x37 1 [⟨S32x36x37, extractStridedSlice S32x36x37 ![0, 1, 0] v h₂⟩,
      ⟨S32x1x37, broadcast S32x1x37 z⟩] h
      = fun j => nbp z (fun k => v (ix3 (j 0) k (j 2))) (j 1) := by
  funext j
  obtain ⟨a, b, c, rfl⟩ : ∃ a b c, j = ix3 a b c := ⟨j 0, j 1, j 2, ValueIdx.eq_ix3 j⟩
  pointwise
  unfold nbp
  split_ifs <;> first | rfl | omega | exact congrArg (fun k => v (ix3 a k c)) (Fin.ext (by simp only []; omega))

/-- The block cut and glued so that each row reads the row at three places before it, with the first row
    repeated at the edge: it reads at the clamped coordinate. -/
theorem shY_m3 (v : S32x37x37.Idx → α) (h₁ : S32x37x37.Slices ![0, 0, 0] S32x1x37)
    (h₂ : S32x37x37.Slices ![0, 0, 0] S32x34x37) (h : Shape.Concatenates [S32x1x37, S32x1x37, S32x1x37, S32x34x37] S32x37x37 1) :
    concatenate S32x37x37 1 [⟨S32x1x37, extractStridedSlice S32x1x37 ![0, 0, 0] v h₁⟩,
      ⟨S32x1x37, extractStridedSlice S32x1x37 ![0, 0, 0] v h₁⟩,
      ⟨S32x1x37, extractStridedSlice S32x1x37 ![0, 0, 0] v h₁⟩,
      ⟨S32x34x37, extractStridedSlice S32x34x37 ![0, 0, 0] v h₂⟩] h
      = fun j => v (ix3 (j 0) (cl (-3) (j 1)) (j 2)) := by
  funext j
  obtain ⟨a, b, c, rfl⟩ : ∃ a b c, j = ix3 a b c := ⟨j 0, j 1, j 2, ValueIdx.eq_ix3 j⟩
  pointwise
  split_ifs <;> exact congrArg (fun k => v (ix3 a k c)) (Fin.ext (by simp only [cl_val]; omega))

/-- The block cut and glued so that each row reads the row at three places after it, with the last row
    repeated at the edge: it reads at the clamped coordinate. -/
theorem shY_p3 (v : S32x37x37.Idx → α) (h₁ : S32x37x37.Slices ![0, 36, 0] S32x1x37)
    (h₂ : S32x37x37.Slices ![0, 3, 0] S32x34x37) (h : Shape.Concatenates [S32x34x37, S32x1x37, S32x1x37, S32x1x37] S32x37x37 1) :
    concatenate S32x37x37 1 [⟨S32x34x37, extractStridedSlice S32x34x37 ![0, 3, 0] v h₂⟩,
      ⟨S32x1x37, extractStridedSlice S32x1x37 ![0, 36, 0] v h₁⟩,
      ⟨S32x1x37, extractStridedSlice S32x1x37 ![0, 36, 0] v h₁⟩,
      ⟨S32x1x37, extractStridedSlice S32x1x37 ![0, 36, 0] v h₁⟩] h
      = fun j => v (ix3 (j 0) (cl (3) (j 1)) (j 2)) := by
  funext j
  obtain ⟨a, b, c, rfl⟩ : ∃ a b c, j = ix3 a b c := ⟨j 0, j 1, j 2, ValueIdx.eq_ix3 j⟩
  pointwise
  split_ifs <;> exact congrArg (fun k => v (ix3 a k c)) (Fin.ext (by simp only [cl_val]; omega))

end Cert.LogBin
end
-- ==== Proof.Spec.lean ====
/- What the descriptor is: 29 bins per image point, each one channel plane read or pooled at a displaced point. -/
module
public import proofs.«01_k».proof.Proof.Clamp
@[expose] public section
set_option maxRecDepth 16384
noncomputable section
namespace Cert.LogBin
open Idealize.ShloMosaic
open Cert.KernelIdeal

/-- The sum of a point and its two neighbours in its row, those outside the image counting nothing. -/
def rowSum (f : Fin 37 → Fin 37 → EReal) (y x : Fin 37) : EReal := f y x + nbp 0 (f y) x + nbm 0 (f y) x

/-- The sum over the three by three points round a point, those outside the image counting nothing. -/
def boxSum (f : Fin 37 → Fin 37 → EReal) (y x : Fin 37) : EReal :=
  rowSum f y x + nbp 0 (fun k => rowSum f k x) y + nbm 0 (fun k => rowSum f k x) y

/-- How many of a coordinate and its two neighbours lie in the image: two at an edge, three inside. -/
def cnt (y : Fin 37) : ℝ := if y.val = 0 ∨ y.val = 36 then 2 else 3

/-- That number is not zero. -/
theorem cnt_ne_zero (y : Fin 37) : cnt y ≠ 0 := by unfold cnt; split_ifs <;> norm_num

/-- The average over the points of the three by three neighbourhood that lie in the image. -/
def pool (f : Fin 37 → Fin 37 → EReal) (y x : Fin 37) : EReal := boxSum f y x * ((1 / (cnt x * cnt y) : ℝ) : EReal)

/-- One bin of a channel plane `f` at the point `(y, x)`: bins 0 to 8 the plane at the nine points round it, bins 9
    to 16 the plane's averages at the eight points three places away, the point taken to the nearest one of the image;
    the other bins zero. -/
def bin (f : Fin 37 → Fin 37 → EReal) (j : ℕ) (y x : Fin 37) : EReal :=
  match j with
  | 0 => f (cl (-1) y) (cl (-1) x)
  | 1 => f (cl (-1) y) x
  | 2 => f (cl (-1) y) (cl 1 x)
  | 3 => f y (cl (-1) x)
  | 4 => f y x
  | 5 => f y (cl 1 x)
  | 6 => f (cl 1 y) (cl (-1) x)
  | 7 => f (cl 1 y) x
  | 8 => f (cl 1 y) (cl 1 x)
  | 9 => pool f (cl (-3) y) (cl (-3) x)
  | 10 => pool f (cl (-3) y) x
  | 11 => pool f (cl (-3) y) (cl 3 x)
  | 12 => pool f y (cl (-3) x)
  | 13 => pool f y (cl 3 x)
  | 14 => pool f (cl 3 y) (cl (-3) x)
  | 15 => pool f (cl 3 y) x
  | 16 => pool f (cl 3 y) (cl 3 x)
  | _ => 0

/-- The bins from 17 on are zero. -/
theorem bin_zero (f : Fin 37 → Fin 37 → EReal) (j : ℕ) (h : 17 ≤ j) (y x : Fin 37) : bin f j y x = 0 := by
  obtain ⟨k, rfl⟩ := Nat.exists_eq_add_of_le' h
  rfl

/-- One channel block of one image: all bins of its 32 planes. -/
def blockG (X : S1x32x37x37.Idx → EReal) (i : S1x29x32x37x37.Idx) : EReal :=
  bin (fun y x => X (ix4 0 (i 2) y x)) (i 1).val (i 3) (i 4)

/-- The whole descriptor of the images `X`, channels last in `X` and bins before channels in the result. -/
def G (X : S8x37x37x384.Idx → EReal) (i : S8x29x384x37x37.Idx) : EReal :=
  bin (fun y x => X (ix4 (i 0) y x (i 2))) (i 1).val (i 3) (i 4)

end Cert.LogBin
end
-- ==== Proof.Payloads.lean ====
/- The values the kernel stores: each bin's payload read at an index, as the block displaced or the pooled block displaced. -/
module
public import proofs.«01_k».proof.Proof.Spec
public import proofs.«01_k».proof.Proof.Gen.KernelIdeal.Skeleton
@[expose] public section
set_option maxRecDepth 16384
noncomputable section
namespace Cert.LogBin
open Idealize.ShloMosaic
open Cert.KernelIdeal Cert.KernelIdeal.Gen

/-- The block with its leading axis of one dropped. -/
theorem pay1_apply (v : Vec Ideal S1x32x37x37 .f32) (a : Fin 32) (y x : Fin 37) :
    k0_pay1 v (ix3 a y x) = v (ix4 0 a y x) := by
  unfold k0_pay1
  pointwise

/-- The same, of the whole loaded plane block. -/
theorem pay1_eq (v : Vec Ideal S1x32x37x37 .f32) : k0_pay1 v = fun j => v (ix4 0 (j 0) (j 1) (j 2)) := by
  funext j
  obtain ⟨a, y, x, rfl⟩ : ∃ a b c, j = ix3 a b c := ⟨j 0, j 1, j 2, ValueIdx.eq_ix3 j⟩
  exact pay1_apply v a y x

/-- A block given two leading axes of one. -/
theorem cast5_apply (v : S32x37x37.Idx → EReal) (h : S32x37x37.ShapeCasts S1x1x32x37x37) (i : S1x1x32x37x37.Idx) :
    shapeCast S1x1x32x37x37 v h i = v (ix3 (i 2) (i 3) (i 4)) := by
  idx_vars i
  pointwise

/-- The payload of bin 0. -/
theorem bin0_apply (v : FVec Ideal S32x37x37 .f32) (i : S1x1x32x37x37.Idx) :
    k0_pay3 v i = v (ix3 (i 2) (cl (-1) (i 3)) (cl (-1) (i 4))) := by
  simp only [k0_pay3]
  rw [cast5_apply]
  simp only [shX_m1, shY_m1]
  rfl

/-- The payload of bin 1. -/
theorem bin1_apply (v : FVec Ideal S32x37x37 .f32) (i : S1x1x32x37x37.Idx) :
    k0_pay4 v i = v (ix3 (i 2) (cl (-1) (i 3)) (i 4)) := by
  simp only [k0_pay4]
  rw [cast5_apply]
  simp only [shY_m1]
  rfl

/-- The payload of bin 2. -/
theorem bin2_apply (v : FVec Ideal S32x37x37 .f32) (i : S1x1x32x37x37.Idx) :
    k0_pay5 v i = v (ix3 (i 2) (cl (-1) (i 3)) (cl 1 (i 4))) := by
  simp only [k0_pay5]
  rw [cast5_apply]
  simp only [shX_p1, shY_m1]
  rfl

/-- The payload of bin 3. -/
theorem bin3_apply (v : FVec Ideal S32x37x37 .f32) (i : S1x1x32x37x37.Idx) :
    k0_pay6 v i = v (ix3 (i 2) (i 3) (cl (-1) (i 4))) := by
  simp only [k0_pay6]
  rw [cast5_apply]
  simp only [shX_m1]
  rfl

/-- The payload of bin 4. -/
theorem bin4_apply (v : FVec Ideal S32x37x37 .f32) (i : S1x1x32x37x37.Idx) :
    k0_pay7 v i = v (ix3 (i 2) (i 3) (i 4)) := by
  simp only [k0_pay7]
  rw [cast5_apply]

/-- The payload of bin 5. -/
theorem bin5_apply (v : FVec Ideal S32x37x37 .f32) (i : S1x1x32x37x37.Idx) :
    k0_pay8 v i = v (ix3 (i 2) (i 3) (cl 1 (i 4))) := by
  simp only [k0_pay8]
  rw [cast5_apply]
  simp only [shX_p1]
  rfl

/-- The payload of bin 6. -/
theorem bin6_apply (v : FVec Ideal S32x37x37 .f32) (i : S1x1x32x37x37.Idx) :
    k0_pay9 v i = v (ix3 (i 2) (cl 1 (i 3)) (cl (-1) (i 4))) := by
  simp only [k0_pay9]
  rw [cast5_apply]
  simp only [shX_m1, shY_p1]
  rfl

/-- The payload of bin 7. -/
theorem bin7_apply (v : FVec Ideal S32x37x37 .f32) (i : S1x1x32x37x37.Idx) :
    k0_pay10 v i = v (ix3 (i 2) (cl 1 (i 3)) (i 4)) := by
  simp only [k0_pay10]
  rw [cast5_apply]
  simp only [shY_p1]
  rfl

/-- The payload of bin 8. -/
theorem bin8_apply (v : FVec Ideal S32x37x37 .f32) (i : S1x1x32x37x37.Idx) :
    k0_pay11 v i = v (ix3 (i 2) (cl 1 (i 3)) (cl 1 (i 4))) := by
  simp only [k0_pay11]
  rw [cast5_apply]
  simp only [shX_p1, shY_p1]
  rfl

/-- The payload of bin 9. -/
theorem bin9_apply (v : FVec Ideal S32x37x37 .f32) (i : S1x1x32x37x37.Idx) :
    k0_pay13 (k0_pay12 v) i = v (ix3 (i 2) (cl (-3) (i 3)) (cl (-3) (i 4))) := by
  simp only [k0_pay13, k0_pay12]
  rw [cast5_apply]
  simp only [shX_m3, shY_m3]
  rfl

/-- The payload of bin 10. -/
theorem bin10_apply (v : FVec Ideal S32x37x37 .f32) (i : S1x1x32x37x37.Idx) :
    k0_pay14 v i = v (ix3 (i 2) (cl (-3) (i 3)) (i 4)) := by
  simp only [k0_pay14]
  rw [cast5_apply]
  simp only [shY_m3]
  rfl

/-- The payload of bin 11. -/
theorem bin11_apply (v : FVec Ideal S32x37x37 .f32) (i : S1x1x32x37x37.Idx) :
    k0_pay15 v i = v (ix3 (i 2) (cl (-3) (i 3)) (cl 3 (i 4))) := by
  simp only [k0_pay15]
  rw [cast5_apply]
  simp only [shX_p3, shY_m3]
  rfl

/-- The payload of bin 12. -/
theorem bin12_apply (v : FVec Ideal S32x37x37 .f32) (i : S1x1x32x37x37.Idx) :
    k0_pay16 v i = v (ix3 (i 2) (i 3) (cl (-3) (i 4))) := by
  simp only [k0_pay16]
  rw [cast5_apply]
  simp only [shX_m3]
  rfl

/-- The payload of bin 13. -/
theorem bin13_apply (v : FVec Ideal S32x37x37 .f32) (i : S1x1x32x37x37.Idx) :
    k0_pay18 (k0_pay17 v) i = v (ix3 (i 2) (i 3) (cl 3 (i 4))) := by
  simp only [k0_pay18, k0_pay17]
  rw [cast5_apply]
  simp only [shX_p3]
  rfl

/-- The payload of bin 14. -/
theorem bin14_apply (v : FVec Ideal S32x37x37 .f32) (i : S1x1x32x37x37.Idx) :
    k0_pay19 v i = v (ix3 (i 2) (cl 3 (i 3)) (cl (-3) (i 4))) := by
  simp only [k0_pay19]
  rw [cast5_apply]
  simp only [shX_m3, shY_p3]
  rfl

/-- The payload of bin 15. -/
theorem bin15_apply (v : FVec Ideal S32x37x37 .f32) (i : S1x1x32x37x37.Idx) :
    k0_pay20 v i = v (ix3 (i 2) (cl 3 (i 3)) (i 4)) := by
  simp only [k0_pay20]
  rw [cast5_apply]
  simp only [shY_p3]
  rfl

/-- The payload of bin 16. -/
theorem bin16_apply (v : FVec Ideal S32x37x37 .f32) (i : S1x1x32x37x37.Idx) :
    k0_pay21 v i = v (ix3 (i 2) (cl 3 (i 3)) (cl 3 (i 4))) := by
  simp only [k0_pay21]
  rw [cast5_apply]
  simp only [shX_p3, shY_p3]
  rfl

/-- The zeros of bins 17 to 28. -/
theorem pay22_apply (i : S1x12x32x37x37.Idx) : (k0_pay22 : FVec Ideal S1x12x32x37x37 .f32) i = 0 := by
  simp only [k0_pay22]
  idx_vars i
  pointwise

/-- The word of the constant two denotes two. -/
theorem lit2 : (Scalar.ofBits .f32 0x40000000#32 : Ideal .f32) = ((2 : ℝ) : EReal) := by
  show Ideal.ofBits .f32 0x40000000#32 = _
  simp [Ideal.ofBits, Ideal.ieee, -EReal.coe_mul]; norm_num
/-- The word of the constant three denotes three. -/
theorem lit3 : (Scalar.ofBits .f32 0x40400000#32 : Ideal .f32) = ((3 : ℝ) : EReal) := by
  show Ideal.ofBits .f32 0x40400000#32 = _
  simp [Ideal.ofBits, Ideal.ieee, -EReal.coe_mul]; norm_num
/-- The word of the constant one denotes one. -/
theorem lit1 : (Scalar.ofBits .f32 0x3F800000#32 : Ideal .f32) = ((1 : ℝ) : EReal) := by
  show Ideal.ofBits .f32 0x3F800000#32 = _
  simp [Ideal.ofBits, Ideal.ieee, -EReal.coe_mul]; norm_num
/-- The zero word denotes zero. -/
theorem lit0 : (Scalar.ofBits .f32 0x00000000#32 : Ideal .f32) = 0 := by
  show Ideal.ofBits .f32 0x00000000#32 = _
  simp [Ideal.ofBits, Ideal.ieee, -EReal.coe_mul]

/-- The choice between two and three by a coordinate's word being 0 or 36 is the number of its neighbours. -/
theorem edge_word : ∀ y : Fin 37, IntOp.ori (IntOp.cmpi .eq (BitVec.ofNat 32 y.val) 0#32)
    (IntOp.cmpi .eq (BitVec.ofNat 32 y.val) 36#32) = if y.val = 0 ∨ y.val = 36 then 1#1 else 0#1 := by decide

/-- The same choice, between the numbers two and three. -/
theorem cnt_word (y : Fin 37) : Scalar.select (IntOp.ori (IntOp.cmpi .eq (BitVec.ofNat 32 y.val) 0#32)
    (IntOp.cmpi .eq (BitVec.ofNat 32 y.val) 36#32)) ((2 : ℝ) : EReal) ((3 : ℝ) : EReal) = ((cnt y : ℝ) : EReal) := by
  rw [edge_word]
  unfold cnt
  split_ifs <;> rfl

/-- The pooled block: at each point the average over the neighbourhood's points inside the image. -/
theorem pay2_apply (v : Vec Ideal S1x32x37x37 .f32) (j : S32x37x37.Idx) :
    k0_pay2 v j = pool (fun y x => v (ix4 0 (j 0) y x)) (j 1) (j 2) := by
  simp only [k0_pay2, zshX_p1, zshX_m1, zshY_p1, zshY_m1, lit0, lit1, lit2, lit3]
  show _ * _ = _ * _
  congr 1
  · rw [pay1_eq]
    rfl
  · idx_vars j
    pointwise
    rw [cnt_word, cnt_word, ← EReal.coe_mul, Ideal.div_coe (mul_ne_zero (cnt_ne_zero _) (cnt_ne_zero _)), ← EReal.coe_mul, one_mul]

end Cert.LogBin
end
-- ==== Proof.Block.lean ====
/- What one grid point leaves in the output's staging buffer: the descriptor of its block of 32 channels. -/
module
public import proofs.«01_k».proof.Proof.Payloads
public import proofs.«01_k».proof.Proof.Gen.KernelIdeal.Frame
public import Idealize.ShloMosaic.Lib.Pipeline.ReadBack
public import Idealize.ShloMosaic.Lib.Pipeline.ValueKit.Geometry
public import Idealize.ShloMosaic.Lib.Pipeline.Value
@[expose] public section
set_option maxRecDepth 16384
noncomputable section
namespace Cert.LogBin
open Idealize.ShloMosaic Idealize.ShloMosaic.TcCoe Idealize.SL.Sem
open Cert.KernelIdeal Cert.KernelIdeal.Gen

/-- The block's descriptor on the slab of bin `k`: that bin of each channel plane. -/
theorem slab_at (X : S1x32x37x37.Idx → EReal) (k : ℕ)
    (inb : ∀ a, (![0, k, 0, 0, 0] : Fin 5 → ℕ) a + S1x1x32x37x37.size a ≤ S1x29x32x37x37.size a) (x : S1x1x32x37x37.Idx) :
    blockG X ((Rect.unit (s := S1x29x32x37x37) ![0, k, 0, 0, 0] S1x1x32x37x37.size inb).emb x)
      = bin (fun y x' => X (ix4 0 (x 2) y x')) k (x 3) (x 4) := by
  have hk : k < 29 := by have := inb 1; change k + 1 ≤ 29 at this; omega
  have e : (Rect.unit (s := S1x29x32x37x37) ![0, k, 0, 0, 0] S1x1x32x37x37.size inb).emb x
      = ix5 0 ⟨k, hk⟩ (x 2) (x 3) (x 4) := by
    funext a
    apply Fin.ext
    rw [ValueKit.rect_emb_unit_val]
    have h0 : (x 0 : ℕ) < 1 := (x 0).isLt
    have h1 : (x 1 : ℕ) < 1 := (x 1).isLt
    fin_cases a
    · show 0 + (x 0 : ℕ) = 0; omega
    · show k + (x 1 : ℕ) = k; omega
    · exact Nat.zero_add _
    · exact Nat.zero_add _
    · exact Nat.zero_add _
  rw [e]
  rfl

/-- The block's descriptor on the last twelve bins: zero. -/
theorem zeros_at (X : S1x32x37x37.Idx → EReal)
    (inb : ∀ a, (![0, 17, 0, 0, 0] : Fin 5 → ℕ) a + S1x12x32x37x37.size a ≤ S1x29x32x37x37.size a) (x : S1x12x32x37x37.Idx) :
    blockG X ((Rect.unit (s := S1x29x32x37x37) ![0, 17, 0, 0, 0] S1x12x32x37x37.size inb).emb x) = 0 := by
  unfold blockG
  apply bin_zero
  rw [ValueKit.rect_emb_unit_val]
  exact Nat.le_add_right 17 _

/-- The stores of one point over the block `X` it loads, the last first. -/
def stores (X : Vec Ideal S1x32x37x37 .f32) : List (View.Piece (Elt Ideal) S1x29x32x37x37 .f32) :=
  [ ⟨Rect.unit (s := S1x29x32x37x37) ![0, 17, 0, 0, 0] S1x12x32x37x37.size inb_S1x29x32x37x37_S1x12x32x37x37_0_17_0_0_0, k0_pay22 (F := Ideal)⟩,
    ⟨Rect.unit (s := S1x29x32x37x37) ![0, 16, 0, 0, 0] S1x1x32x37x37.size inb_S1x29x32x37x37_S1x1x32x37x37_0_16_0_0_0, k0_pay21 (k0_pay2 X)⟩,
    ⟨Rect.unit (s := S1x29x32x37x37) ![0, 15, 0, 0, 0] S1x1x32x37x37.size inb_S1x29x32x37x37_S1x1x32x37x37_0_15_0_0_0, k0_pay20 (k0_pay2 X)⟩,
    ⟨Rect.unit (s := S1x29x32x37x37) ![0, 14, 0, 0, 0] S1x1x32x37x37.size inb_S1x29x32x37x37_S1x1x32x37x37_0_14_0_0_0, k0_pay19 (k0_pay2 X)⟩,
    ⟨Rect.unit (s := S1x29x32x37x37) ![0, 13, 0, 0, 0] S1x1x32x37x37.size inb_S1x29x32x37x37_S1x1x32x37x37_0_13_0_0_0, k0_pay18 (k0_pay17 (k0_pay2 X))⟩,
    ⟨Rect.unit (s := S1x29x32x37x37) ![0, 12, 0, 0, 0] S1x1x32x37x37.size inb_S1x29x32x37x37_S1x1x32x37x37_0_12_0_0_0, k0_pay16 (k0_pay2 X)⟩,
    ⟨Rect.unit (s := S1x29x32x37x37) ![0, 11, 0, 0, 0] S1x1x32x37x37.size inb_S1x29x32x37x37_S1x1x32x37x37_0_11_0_0_0, k0_pay15 (k0_pay2 X)⟩,
    ⟨Rect.unit (s := S1x29x32x37x37) ![0, 10, 0, 0, 0] S1x1x32x37x37.size inb_S1x29x32x37x37_S1x1x32x37x37_0_10_0_0_0, k0_pay14 (k0_pay2 X)⟩,
    ⟨Rect.unit (s := S1x29x32x37x37) ![0, 9, 0, 0, 0] S1x1x32x37x37.size inb_S1x29x32x37x37_S1x1x32x37x37_0_9_0_0_0, k0_pay13 (k0_pay12 (k0_pay2 X))⟩,
    ⟨Rect.unit (s := S1x29x32x37x37) ![0, 8, 0, 0, 0] S1x1x32x37x37.size inb_S1x29x32x37x37_S1x1x32x37x37_0_8_0_0_0, k0_pay11 (k0_pay1 X)⟩,
    ⟨Rect.unit (s := S1x29x32x37x37) ![0, 7, 0, 0, 0] S1x1x32x37x37.size inb_S1x29x32x37x37_S1x1x32x37x37_0_7_0_0_0, k0_pay10 (k0_pay1 X)⟩,
    ⟨Rect.unit (s := S1x29x32x37x37) ![0, 6, 0, 0, 0] S1x1x32x37x37.size inb_S1x29x32x37x37_S1x1x32x37x37_0_6_0_0_0, k0_pay9 (k0_pay1 X)⟩,
    ⟨Rect.unit (s := S1x29x32x37x37) ![0, 5, 0, 0, 0] S1x1x32x37x37.size inb_S1x29x32x37x37_S1x1x32x37x37_0_5_0_0_0, k0_pay8 (k0_pay1 X)⟩,
    ⟨Rect.unit (s := S1x29x32x37x37) ![0, 4, 0, 0, 0] S1x1x32x37x37.size inb_S1x29x32x37x37_S1x1x32x37x37_0_4_0_0_0, k0_pay7 (k0_pay1 X)⟩,
    ⟨Rect.unit (s := S1x29x32x37x37) ![0, 3, 0, 0, 0] S1x1x32x37x37.size inb_S1x29x32x37x37_S1x1x32x37x37_0_3_0_0_0, k0_pay6 (k0_pay1 X)⟩,
    ⟨Rect.unit (s := S1x29x32x37x37) ![0, 2, 0, 0, 0] S1x1x32x37x37.size inb_S1x29x32x37x37_S1x1x32x37x37_0_2_0_0_0, k0_pay5 (k0_pay1 X)⟩,
    ⟨Rect.unit (s := S1x29x32x37x37) ![0, 1, 0, 0, 0] S1x1x32x37x37.size inb_S1x29x32x37x37_S1x1x32x37x37_0_1_0_0_0, k0_pay4 (k0_pay1 X)⟩,
    ⟨Rect.unit (s := S1x29x32x37x37) ![0, 0, 0, 0, 0] S1x1x32x37x37.size inb_S1x29x32x37x37_S1x1x32x37x37_0_0_0_0_0, k0_pay3 (k0_pay1 X)⟩ ]

/-- Each store is a slab of the block's descriptor. -/
theorem stores_slabs (X : Vec Ideal S1x32x37x37 .f32) : View.PiecesOf (Val := Elt Ideal) (e := .f32) (blockG X) (stores X) :=
  ⟨fun x => (pay22_apply x).trans (zeros_at X inb_S1x29x32x37x37_S1x12x32x37x37_0_17_0_0_0 x).symm,
    fun x => ((bin16_apply (k0_pay2 X) x).trans (pay2_apply X _)).trans (slab_at X 16 inb_S1x29x32x37x37_S1x1x32x37x37_0_16_0_0_0 x).symm,
    fun x => ((bin15_apply (k0_pay2 X) x).trans (pay2_apply X _)).trans (slab_at X 15 inb_S1x29x32x37x37_S1x1x32x37x37_0_15_0_0_0 x).symm,
    fun x => ((bin14_apply (k0_pay2 X) x).trans (pay2_apply X _)).trans (slab_at X 14 inb_S1x29x32x37x37_S1x1x32x37x37_0_14_0_0_0 x).symm,
    fun x => ((bin13_apply (k0_pay2 X) x).trans (pay2_apply X _)).trans (slab_at X 13 inb_S1x29x32x37x37_S1x1x32x37x37_0_13_0_0_0 x).symm,
    fun x => ((bin12_apply (k0_pay2 X) x).trans (pay2_apply X _)).trans (slab_at X 12 inb_S1x29x32x37x37_S1x1x32x37x37_0_12_0_0_0 x).symm,
    fun x => ((bin11_apply (k0_pay2 X) x).trans (pay2_apply X _)).trans (slab_at X 11 inb_S1x29x32x37x37_S1x1x32x37x37_0_11_0_0_0 x).symm,
    fun x => ((bin10_apply (k0_pay2 X) x).trans (pay2_apply X _)).trans (slab_at X 10 inb_S1x29x32x37x37_S1x1x32x37x37_0_10_0_0_0 x).symm,
    fun x => ((bin9_apply (k0_pay2 X) x).trans (pay2_apply X _)).trans (slab_at X 9 inb_S1x29x32x37x37_S1x1x32x37x37_0_9_0_0_0 x).symm,
    fun x => ((bin8_apply (k0_pay1 X) x).trans (congrFun (pay1_eq X) _)).trans (slab_at X 8 inb_S1x29x32x37x37_S1x1x32x37x37_0_8_0_0_0 x).symm,
    fun x => ((bin7_apply (k0_pay1 X) x).trans (congrFun (pay1_eq X) _)).trans (slab_at X 7 inb_S1x29x32x37x37_S1x1x32x37x37_0_7_0_0_0 x).symm,
    fun x => ((bin6_apply (k0_pay1 X) x).trans (congrFun (pay1_eq X) _)).trans (slab_at X 6 inb_S1x29x32x37x37_S1x1x32x37x37_0_6_0_0_0 x).symm,
    fun x => ((bin5_apply (k0_pay1 X) x).trans (congrFun (pay1_eq X) _)).trans (slab_at X 5 inb_S1x29x32x37x37_S1x1x32x37x37_0_5_0_0_0 x).symm,
    fun x => ((bin4_apply (k0_pay1 X) x).trans (congrFun (pay1_eq X) _)).trans (slab_at X 4 inb_S1x29x32x37x37_S1x1x32x37x37_0_4_0_0_0 x).symm,
    fun x => ((bin3_apply (k0_pay1 X) x).trans (congrFun (pay1_eq X) _)).trans (slab_at X 3 inb_S1x29x32x37x37_S1x1x32x37x37_0_3_0_0_0 x).symm,
    fun x => ((bin2_apply (k0_pay1 X) x).trans (congrFun (pay1_eq X) _)).trans (slab_at X 2 inb_S1x29x32x37x37_S1x1x32x37x37_0_2_0_0_0 x).symm,
    fun x => ((bin1_apply (k0_pay1 X) x).trans (congrFun (pay1_eq X) _)).trans (slab_at X 1 inb_S1x29x32x37x37_S1x1x32x37x37_0_1_0_0_0 x).symm,
    fun x => ((bin0_apply (k0_pay1 X) x).trans (congrFun (pay1_eq X) _)).trans (slab_at X 0 inb_S1x29x32x37x37_S1x1x32x37x37_0_0_0_0_0 x).symm, trivial⟩

/-- The zero offsets of a four-axis slice. -/
theorem zero4 : (![0, 0, 0, 0] : Fin 4 → ℕ) = fun _ => 0 := by
  funext a; fin_cases a <;> rfl

variable (m : (ℓ : Loc nD τ sig) → Buf (Elt Ideal) ℓ)

/-- The stores of one point read back: together they cover the buffer, so it holds its block's descriptor. -/
theorem outsAt_eq (c : Dev nD) (t : Fin cfg0.N) : outsAt0 m c t = blockG (iblk m c 0 t) := by
  unfold outsAt0 out0_A_1
  rw [View.read_writes_eq_canon _ _ _ (cover0_A_1 c (grid0.coords t) (ms0_0 t) (hs0_0 t) (ms0_1 t) (hs0_1 t) (iblk m c 0 t))]
  funext y
  have hc := cover0_A_1 c (grid0.coords t) (ms0_0 t) (hs0_0 t) (ms0_1 t) (hs0_1 t) (iblk m c 0 t) y
  have hL : (kernelRun0_A c (grid0.coords t) (ms0_0 t) (hs0_0 t) (ms0_1 t) (hs0_1 t) (iblk m c 0 t)).1
      = stores (View.ld ((ms0_0 t).view.read (Elt Ideal) ((hs0_0 t).unread (iblk m c 0 t)))
          (Rect.unit ![0, 0, 0, 0] S1x32x37x37.size inb_S1x32x37x37_S1x32x37x37_0_0_0_0)) := rfl
  rw [hL, (hs0_0 t).read_unread, View.ld_unit_zero zero4] at hc ⊢
  have h := View.canon_append_of_piecesOf (Val := Elt Ideal) (e := .f32) (blockG (iblk m c 0 t)) [] (stores (iblk m c 0 t))
    (stores_slabs (iblk m c 0 t)) y hc
  rw [List.append_nil] at h
  exact h

end Cert.LogBin
end
-- ==== Proof.Array.lean ====
/- What the kernel's result array holds when the grid is done, and the run read to the program's result. -/
module
public import proofs.«01_k».proof.Proof.Block
@[expose] public section
set_option maxRecDepth 16384
noncomputable section
namespace Cert.LogBin
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The images device `c` starts with, channels last. -/
abbrev input (c : Dev nD) : S8x37x37x384.Idx → EReal := m ((c : Thread nD τ).loc main_arg0)

/-- Where the blocks of point `t` lie: image `t / 12`, channel block `t % 12`, everything along the other axes. -/
theorem index_facts : ∀ t : Fin grid0.N,
    (win0_0.index t 0 = t.val / 12 ∧ win0_0.index t 1 = t.val % 12 ∧ win0_0.index t 2 = 0 ∧ win0_0.index t 3 = 0)
    ∧ (win0_1.index t 0 = t.val / 12 ∧ win0_1.index t 1 = 0 ∧ win0_1.index t 2 = t.val % 12 ∧ win0_1.index t 3 = 0
      ∧ win0_1.index t 4 = 0) := by decide +kernel

/-- The region finds the images transposed, channels ahead of rows and columns. -/
theorem entry_eq (c : Dev nD) : V m c main_v0
    = transpose S8x384x37x37 [0, 3, 1, 2] (input m c) transposes_S8x37x37x384_S8x384x37x37_0_3_1_2 := by
  show StableHlo.after (hostOps0 (F := Ideal)) (fun b => m (c, b)) (Proc.devRef .tc main_v0) = _
  rw [StableHlo.after_cons, StableHlo.after_nil, StableHlo.unary_result]

/-- The same at an index. -/
theorem entry_apply (c : Dev nD) (i : S8x384x37x37.Idx) : V m c main_v0 i = input m c (ix4 (i 0) (i 2) (i 3) (i 1)) := by
  rw [entry_eq]
  obtain ⟨a, b, y, x, rfl⟩ : ∃ a b y x, i = ix4 a b y x := ⟨i 0, i 1, i 2, i 3, ValueIdx.eq_ix4 i⟩
  pointwise

/-- What point `t` writes back is its block of the whole descriptor. -/
theorem flushed_eq (c : Dev nD) (t : Fin cfg0.N) :
    (dats m 0 c).flushed 1 t = (win0_1.blk t).view.read (Elt Ideal) (G (input m c)) := by
  show (cfg0.win 1).cut (grid0.coords t) ((dats m 0 c).after 1 t) = _
  rw [after0_1, outsAt_eq]
  obtain ⟨⟨p0, p1, p2, p3⟩, q0, q1, q2, q3, q4⟩ := index_facts t
  funext i
  show blockG (iblk m c 0 t) i = G (input m c) ((win0_1.rect t).emb i)
  have f0 : (((win0_1.rect t).emb i 0 : Fin 8) : ℕ) = win0_1.index t 0 * 1 + (i 0 : ℕ) := Pipeline.Window.rect_emb_val win0_1 t i 0
  have f1 : (((win0_1.rect t).emb i 1 : Fin 29) : ℕ) = win0_1.index t 1 * 29 + (i 1 : ℕ) := Pipeline.Window.rect_emb_val win0_1 t i 1
  have f2 : (((win0_1.rect t).emb i 2 : Fin 384) : ℕ) = win0_1.index t 2 * 32 + (i 2 : ℕ) := Pipeline.Window.rect_emb_val win0_1 t i 2
  have f3 : (((win0_1.rect t).emb i 3 : Fin 37) : ℕ) = win0_1.index t 3 * 37 + (i 3 : ℕ) := Pipeline.Window.rect_emb_val win0_1 t i 3
  have f4 : (((win0_1.rect t).emb i 4 : Fin 37) : ℕ) = win0_1.index t 4 * 37 + (i 4 : ℕ) := Pipeline.Window.rect_emb_val win0_1 t i 4
  rw [q0] at f0; rw [q1] at f1; rw [q2] at f2; rw [q3] at f3; rw [q4] at f4
  have i0 : (i 0 : ℕ) < 1 := (i 0).isLt
  have e : (fun y x : Fin 37 => iblk m c 0 t (ix4 0 (i 2) y x))
      = fun y x => input m c (ix4 ((win0_1.rect t).emb i 0) y x ((win0_1.rect t).emb i 2)) := by
    funext y x
    show V m c main_v0 ((win0_0.rect t).emb (ix4 0 (i 2) y x)) = _
    rw [entry_apply]
    have g0 : (((win0_0.rect t).emb (ix4 0 (i 2) y x) 0 : Fin 8) : ℕ) = win0_0.index t 0 * 1 + 0 := Pipeline.Window.rect_emb_val win0_0 t (ix4 0 (i 2) y x) 0
    have g1 : (((win0_0.rect t).emb (ix4 0 (i 2) y x) 1 : Fin 384) : ℕ) = win0_0.index t 1 * 32 + (i 2 : ℕ) := Pipeline.Window.rect_emb_val win0_0 t (ix4 0 (i 2) y x) 1
    have g2 : (((win0_0.rect t).emb (ix4 0 (i 2) y x) 2 : Fin 37) : ℕ) = win0_0.index t 2 * 37 + (y : ℕ) := Pipeline.Window.rect_emb_val win0_0 t (ix4 0 (i 2) y x) 2
    have g3 : (((win0_0.rect t).emb (ix4 0 (i 2) y x) 3 : Fin 37) : ℕ) = win0_0.index t 3 * 37 + (x : ℕ) := Pipeline.Window.rect_emb_val win0_0 t (ix4 0 (i 2) y x) 3
    rw [p0] at g0; rw [p1] at g1; rw [p2] at g2; rw [p3] at g3
    have h0 : ((win0_0.rect t).emb (ix4 0 (i 2) y x) 0 : Fin 8) = (win0_1.rect t).emb i 0 := Fin.ext (by omega)
    have h1 : ((win0_0.rect t).emb (ix4 0 (i 2) y x) 1 : Fin 384) = (win0_1.rect t).emb i 2 := Fin.ext (by omega)
    have h2 : ((win0_0.rect t).emb (ix4 0 (i 2) y x) 2 : Fin 37) = y := Fin.ext (by omega)
    have h3 : ((win0_0.rect t).emb (ix4 0 (i 2) y x) 3 : Fin 37) = x := Fin.ext (by omega)
    exact congrArg (input m c) (by rw [h0, h1, h2, h3])
  have h1 : (i 1 : ℕ) = (((win0_1.rect t).emb i 1 : Fin 29) : ℕ) := by omega
  have h3 : (i 3 : Fin 37) = (win0_1.rect t).emb i 3 := Fin.ext (by omega)
  have h4 : (i 4 : Fin 37) = (win0_1.rect t).emb i 4 := Fin.ext (by omega)
  show bin (fun y x => iblk m c 0 t (ix4 0 (i 2) y x)) (i 1 : ℕ) (i 3) (i 4) = bin _ (((win0_1.rect t).emb i 1 : Fin 29) : ℕ) ((win0_1.rect t).emb i 3) ((win0_1.rect t).emb i 4)
  rw [e, h1]
  exact congrArg₂ (bin _ _) h3 h4

/-- An index of the result array whose image is `t / 12` and whose channel lies in channel block `t % 12` is in the
    block of point `t`. -/
theorem mem_blk (t : Fin cfg0.N) (i : S8x29x384x37x37.Idx) (h0 : (i 0 : ℕ) = t.val / 12)
    (h2 : (i 2 : ℕ) / 32 = t.val % 12) : i ∈ ((cfg0.win 1).blk t).view.set := by
  show i ∈ ((View.whole main_v1).slice (win0_1.rect t)).set
  rw [View.set_slice_whole, Rect.mem_set_unit]
  obtain ⟨-, q0, q1, q2, q3, q4⟩ := index_facts t
  have i1 : (i 1 : ℕ) < 29 := (i 1).isLt
  have i3 : (i 3 : ℕ) < 37 := (i 3).isLt
  have i4 : (i 4 : ℕ) < 37 := (i 4).isLt
  intro a
  match a with
  | ⟨0, _⟩ => show win0_1.index t 0 * 1 ≤ (i 0 : ℕ) ∧ (i 0 : ℕ) < win0_1.index t 0 * 1 + 1; omega
  | ⟨1, _⟩ => show win0_1.index t 1 * 29 ≤ (i 1 : ℕ) ∧ (i 1 : ℕ) < win0_1.index t 1 * 29 + 29; omega
  | ⟨2, _⟩ => show win0_1.index t 2 * 32 ≤ (i 2 : ℕ) ∧ (i 2 : ℕ) < win0_1.index t 2 * 32 + 32; omega
  | ⟨3, _⟩ => show win0_1.index t 3 * 37 ≤ (i 3 : ℕ) ∧ (i 3 : ℕ) < win0_1.index t 3 * 37 + 37; omega
  | ⟨4, _⟩ => show win0_1.index t 4 * 37 ≤ (i 4 : ℕ) ∧ (i 4 : ℕ) < win0_1.index t 4 * 37 + 37; omega

/-- The blocks written back cover the result array. -/
theorem cover (i : S8x29x384x37x37.Idx) :
    ∃ t : Fin cfg0.N, (cfg0.win 1).flush t = true ∧ i ∈ ((cfg0.win 1).blk t).view.set := by
  have i0 : (i 0 : ℕ) < 8 := (i 0).isLt
  have i2 : (i 2 : ℕ) < 384 := (i 2).isLt
  have hN : cfg0.N = 96 := N_0
  refine ⟨⟨(i 0 : ℕ) * 12 + (i 2 : ℕ) / 32, by omega⟩, flush0_1 _, mem_blk _ i ?_ ?_⟩ <;> dsimp only <;> omega

/-- The result array ends holding the descriptor of the images. -/
theorem final (c : Dev nD) : (dats m 0 c).arrAt 1 cfg0.N = G (input m c) :=
  (dats m 0 c).arrAt_eq_of_cover 1 (G (input m c)) (fun t _ => flushed_eq m c t) cover

/-- What the lines after the region leave in the program's result: the descriptor with bins and channels merged. -/
theorem tail_eq (c : Dev nD) : Pipeline.afterTail₀ cfgs (dats m) 0 (V0 m) [hostOps1] c main_v2
    = shapeCast S8x11136x37x37 (G (input m c)) shapeCasts_S8x29x384x37x37_S8x11136x37x37 := by
  show StableHlo.after (hostOps1 (F := Ideal)) (Pipeline.withArrays spec0 c (V0 m c) fun w => (dats m 0 c).arrAt w cfg0.N) (Proc.devRef .tc main_v2) = _
  rw [StableHlo.after_cons, StableHlo.after_nil, StableHlo.reshape_result]
  have h := Pipeline.withArrays_arr spec0 launch0.win.arr_inj c (V0 m c) (fun w => (dats m 0 c).arrAt w cfg0.N) 1
  rw [final] at h
  exact congrArg (fun A => shapeCast S8x11136x37x37 A shapeCasts_S8x29x384x37x37_S8x11136x37x37) h

/-- The run of the program: its result is the merged descriptor of the images, and the images are unchanged. -/
theorem run_kernel : θ_run defs (onTc (τ := τ) (main (F := Ideal))) ⟨m, fun _ => 0, ρ⟩ fun r => ∀ c : Dev nD,
      r.2.mem ((c : Thread nD τ).loc main_v2) = shapeCast S8x11136x37x37 (G (input m c)) shapeCasts_S8x29x384x37x37_S8x11136x37x37
      ∧ r.2.mem ((c : Thread nD τ).loc main_arg0) = m ((c : Thread nD τ).loc main_arg0) :=
  (θ_run defs _ _).mono (fun _ h c => ⟨h.1 c, h.2 c⟩)
    (θ_run_and (Q₁ := fun r => ∀ c : Dev nD, r.2.mem ((c : Thread nD τ).loc main_v2)
        = shapeCast S8x11136x37x37 (G (input m c)) shapeCasts_S8x29x384x37x37_S8x11136x37x37)
      ((θ_run defs _ _).mono (fun _ h c =>
        ((h c).2 main_v2 (Pipeline.mem_restRefs_of main_v2 (by decide) (by decide))).trans (tail_eq m c)) (run_main m ρ))
      (unchanged m ρ))

end Cert.LogBin
end
-- ==== Proof.Window.lean ====
/- A three by three window sum over the last two axes, the edge padded with zeros: it is the box sum, and over the
   constant one it counts the neighbourhood's points. -/
module
public import proofs.«01_k».proof.Proof.Spec
@[expose] public section
set_option maxRecDepth 16384
noncomputable section
namespace Cert.LogBin
open Idealize.ShloMosaic

/-- What the window position `(ky, kx)` at the point `(y, x)` adds: the plane's value there, zero in the padding. -/
def tap (f : Fin 37 → Fin 37 → EReal) (y x : Fin 37) (ky kx : ℕ) : EReal :=
  if h : (1 ≤ y.val + ky ∧ y.val + ky - 1 < 37) ∧ (1 ≤ x.val + kx ∧ x.val + kx - 1 < 37) then
    f ⟨y.val + ky - 1, h.1.2⟩ ⟨x.val + kx - 1, h.2.2⟩ else 0

/-- The value one place before, the value itself, the value one place after; zero outside. -/
def side (g : Fin 37 → EReal) (k : ℕ) (x : Fin 37) : EReal := if k = 0 then nbm 0 g x else if k = 1 then g x else nbp 0 g x

/-- The three cases of `side` as one: the value at `x + k - 1` where that lies on the axis. -/
theorem side_eq (g : Fin 37 → EReal) (k : ℕ) (hk : k < 3) (x : Fin 37) :
    side g k x = if h : 1 ≤ x.val + k ∧ x.val + k - 1 < 37 then g ⟨x.val + k - 1, h.2⟩ else 0 := by
  have hx := x.isLt
  unfold side nbm nbp
  split_ifs <;> first | rfl | omega | exact congrArg g (Fin.ext (by simp only []; omega))

/-- A window position is a column neighbour of a row neighbour. -/
theorem tap_eq (f : Fin 37 → Fin 37 → EReal) (y x : Fin 37) (ky kx : ℕ) (hy : ky < 3) (hx : kx < 3) :
    tap f y x ky kx = side (fun r => side (f r) kx x) ky y := by
  rw [side_eq _ ky hy]
  unfold tap
  by_cases h1 : 1 ≤ y.val + ky ∧ y.val + ky - 1 < 37
  · rw [dif_pos h1, side_eq _ kx hx]
    by_cases h2 : 1 ≤ x.val + kx ∧ x.val + kx - 1 < 37
    · rw [dif_pos ⟨h1, h2⟩, dif_pos h2]
    · rw [dif_neg (fun h => h2 h.2), dif_neg h2]
  · rw [dif_neg (fun h => h1 h.1), dif_neg h1]

/-- The value one place after, of a sum, is the sum of the values one place after. -/
theorem nbp_add (a b : Fin 37 → EReal) (y : Fin 37) : nbp 0 (fun k => a k + b k) y = nbp 0 a y + nbp 0 b y := by
  unfold nbp; split_ifs <;> simp
/-- The value one place before, of a sum, is the sum of the values one place before. -/
theorem nbm_add (a b : Fin 37 → EReal) (y : Fin 37) : nbm 0 (fun k => a k + b k) y = nbm 0 a y + nbm 0 b y := by
  unfold nbm; split_ifs <;> simp

/-- The nine window positions, summed row by row, make the box sum. -/
theorem taps_sum (f : Fin 37 → Fin 37 → EReal) (y x : Fin 37) :
    0 + tap f y x 0 0 + tap f y x 0 1 + tap f y x 0 2 + tap f y x 1 0 + tap f y x 1 1 + tap f y x 1 2
      + tap f y x 2 0 + tap f y x 2 1 + tap f y x 2 2 = boxSum f y x := by
  rw [tap_eq f y x 0 0 (by omega) (by omega), tap_eq f y x 0 1 (by omega) (by omega), tap_eq f y x 0 2 (by omega) (by omega),
    tap_eq f y x 1 0 (by omega) (by omega), tap_eq f y x 1 1 (by omega) (by omega), tap_eq f y x 1 2 (by omega) (by omega),
    tap_eq f y x 2 0 (by omega) (by omega), tap_eq f y x 2 1 (by omega) (by omega), tap_eq f y x 2 2 (by omega) (by omega)]
  show 0 + nbm 0 (fun r => nbm 0 (f r) x) y + nbm 0 (fun r => f r x) y + nbm 0 (fun r => nbp 0 (f r) x) y
      + nbm 0 (f y) x + f y x + nbp 0 (f y) x
      + nbp 0 (fun r => nbm 0 (f r) x) y + nbp 0 (fun r => f r x) y + nbp 0 (fun r => nbp 0 (f r) x) y
      = f y x + nbp 0 (f y) x + nbm 0 (f y) x
        + nbp 0 (fun k => f k x + nbp 0 (f k) x + nbm 0 (f k) x) y
        + nbm 0 (fun k => f k x + nbp 0 (f k) x + nbm 0 (f k) x) y
  rw [nbp_add (fun k => f k x + nbp 0 (f k) x) (fun k => nbm 0 (f k) x) y, nbp_add (fun k => f k x) (fun k => nbp 0 (f k) x) y,
    nbm_add (fun k => f k x + nbp 0 (f k) x) (fun k => nbm 0 (f k) x) y, nbm_add (fun k => f k x) (fun k => nbp 0 (f k) x) y]
  abel

/-- Over the constant one the box sum counts the points of the neighbourhood inside the image. -/
theorem boxSum_one (y x : Fin 37) : boxSum (fun _ _ => 1) y x = ((cnt y * cnt x : ℝ) : EReal) := by
  have hy := y.isLt
  have hx := x.isLt
  have hr : ∀ k, rowSum (fun _ _ => 1) k x = ((cnt x : ℝ) : EReal) := fun k => by
    unfold rowSum nbp nbm cnt
    rw [← EReal.coe_one, ← EReal.coe_zero]
    split_ifs <;> first | omega | (rw [← EReal.coe_add, ← EReal.coe_add]; norm_num)
  unfold boxSum
  simp only [hr]
  unfold nbp nbm
  rw [← EReal.coe_zero]
  have e : cnt y = if y.val = 0 ∨ y.val = 36 then 2 else 3 := rfl
  rw [e]
  split_ifs <;> first | omega | (rw [← EReal.coe_add, ← EReal.coe_add]; congr 1; ring)

/-- The position in the window, row by row, of each of its nine entries. -/
theorem win_coords : ∀ n : Fin (⟨4, ![1, 1, 3, 3]⟩ : Shape).numel,
    (((⟨4, ![1, 1, 3, 3]⟩ : Shape).rowMajor.symm n 0).val = 0 ∧ ((⟨4, ![1, 1, 3, 3]⟩ : Shape).rowMajor.symm n 1).val = 0)
    ∧ ((⟨4, ![1, 1, 3, 3]⟩ : Shape).rowMajor.symm n 2).val = n.val / 3 ∧ ((⟨4, ![1, 1, 3, 3]⟩ : Shape).rowMajor.symm n 3).val = n.val % 3 := by
  decide +kernel

/-- The window sum at an index. -/
theorem window_apply {A B : ℕ} (v : (⟨4, ![A, B, 37, 37]⟩ : Shape).Idx → EReal)
    (h : (⟨4, ![A, B, 37, 37]⟩ : Shape).ReduceWindows (![1, 1, 3, 3] : Fin 4 → ℕ) ![1, 1, 1, 1] ![0, 0, 1, 1] ![0, 0, 1, 1] ⟨4, ![A, B, 37, 37]⟩)
    (a : Fin A) (b : Fin B) (y x : Fin 37) :
    Ideal.hostReduceWindowAdd (s := ⟨4, ![A, B, 37, 37]⟩) ![1, 1, 3, 3] ![1, 1, 1, 1] ![0, 0, 1, 1] ![0, 0, 1, 1] h v 0 (ix4 a b y x)
      = boxSum (fun r c => v (ix4 a b r c)) y x := by
  unfold Ideal.hostReduceWindowAdd Host.reduceWindow
  have step : ∀ n : Fin (⟨4, ![1, 1, 3, 3]⟩ : Shape).numel,
      (if hin : ∀ i : Fin 4, (![0, 0, 1, 1] : Fin 4 → ℕ) i ≤ ((ix4 a b y x : (⟨4, ![A, B, 37, 37]⟩ : Shape).Idx) i).val * (![1, 1, 1, 1] : Fin 4 → ℕ) i
            + ((⟨4, ![1, 1, 3, 3]⟩ : Shape).rowMajor.symm n i).val
          ∧ ((ix4 a b y x : (⟨4, ![A, B, 37, 37]⟩ : Shape).Idx) i).val * (![1, 1, 1, 1] : Fin 4 → ℕ) i
            + ((⟨4, ![1, 1, 3, 3]⟩ : Shape).rowMajor.symm n i).val - (![0, 0, 1, 1] : Fin 4 → ℕ) i < (⟨4, ![A, B, 37, 37]⟩ : Shape).size i
        then v (fun i => ⟨((ix4 a b y x : (⟨4, ![A, B, 37, 37]⟩ : Shape).Idx) i).val * (![1, 1, 1, 1] : Fin 4 → ℕ) i
            + ((⟨4, ![1, 1, 3, 3]⟩ : Shape).rowMajor.symm n i).val - (![0, 0, 1, 1] : Fin 4 → ℕ) i, (hin i).2⟩) else 0)
      = tap (fun r c => v (ix4 a b r c)) y x (n.val / 3) (n.val % 3) := fun n => by
    obtain ⟨⟨w0, w1⟩, w2, w3⟩ := win_coords n
    have ha := a.isLt
    have hb := b.isLt
    unfold tap
    by_cases hh : (1 ≤ y.val + n.val / 3 ∧ y.val + n.val / 3 - 1 < 37) ∧ (1 ≤ x.val + n.val % 3 ∧ x.val + n.val % 3 - 1 < 37)
    · rw [dif_pos hh, dif_pos]
      · refine congrArg v (funext fun i => Fin.ext ?_)
        match i with
        | ⟨0, _⟩ => show a.val * 1 + ((⟨4, ![1, 1, 3, 3]⟩ : Shape).rowMajor.symm n 0).val - 0 = a.val; omega
        | ⟨1, _⟩ => show b.val * 1 + ((⟨4, ![1, 1, 3, 3]⟩ : Shape).rowMajor.symm n 1).val - 0 = b.val; omega
        | ⟨2, _⟩ => show y.val * 1 + ((⟨4, ![1, 1, 3, 3]⟩ : Shape).rowMajor.symm n 2).val - 1 = y.val + n.val / 3 - 1; omega
        | ⟨3, _⟩ => show x.val * 1 + ((⟨4, ![1, 1, 3, 3]⟩ : Shape).rowMajor.symm n 3).val - 1 = x.val + n.val % 3 - 1; omega
      · intro i
        match i with
        | ⟨0, _⟩ =>
          show 0 ≤ a.val * 1 + ((⟨4, ![1, 1, 3, 3]⟩ : Shape).rowMajor.symm n 0).val
            ∧ a.val * 1 + ((⟨4, ![1, 1, 3, 3]⟩ : Shape).rowMajor.symm n 0).val - 0 < A
          omega
        | ⟨1, _⟩ =>
          show 0 ≤ b.val * 1 + ((⟨4, ![1, 1, 3, 3]⟩ : Shape).rowMajor.symm n 1).val
            ∧ b.val * 1 + ((⟨4, ![1, 1, 3, 3]⟩ : Shape).rowMajor.symm n 1).val - 0 < B
          omega
        | ⟨2, _⟩ =>
          show 1 ≤ y.val * 1 + ((⟨4, ![1, 1, 3, 3]⟩ : Shape).rowMajor.symm n 2).val
            ∧ y.val * 1 + ((⟨4, ![1, 1, 3, 3]⟩ : Shape).rowMajor.symm n 2).val - 1 < 37
          omega
        | ⟨3, _⟩ =>
          show 1 ≤ x.val * 1 + ((⟨4, ![1, 1, 3, 3]⟩ : Shape).rowMajor.symm n 3).val
            ∧ x.val * 1 + ((⟨4, ![1, 1, 3, 3]⟩ : Shape).rowMajor.symm n 3).val - 1 < 37
          omega
    · rw [dif_neg hh, dif_neg]
      intro hin
      have h2 : 1 ≤ y.val * 1 + ((⟨4, ![1, 1, 3, 3]⟩ : Shape).rowMajor.symm n 2).val
        ∧ y.val * 1 + ((⟨4, ![1, 1, 3, 3]⟩ : Shape).rowMajor.symm n 2).val - 1 < 37 := hin 2
      have h3 : 1 ≤ x.val * 1 + ((⟨4, ![1, 1, 3, 3]⟩ : Shape).rowMajor.symm n 3).val
        ∧ x.val * 1 + ((⟨4, ![1, 1, 3, 3]⟩ : Shape).rowMajor.symm n 3).val - 1 < 37 := hin 3
      exact hh (by omega)
  refine Eq.trans (b := (List.finRange (⟨4, ![1, 1, 3, 3]⟩ : Shape).numel).foldl
    (fun r n => r + tap (fun r c => v (ix4 a b r c)) y x (n.val / 3) (n.val % 3)) 0) ?_ ?_
  · refine congrArg (fun g : EReal → Fin (⟨4, ![1, 1, 3, 3]⟩ : Shape).numel → EReal => List.foldl g 0 _) ?_
    funext r n
    exact congrArg (r + ·) ((dite_congr rfl (fun _ => rfl) (fun _ => rfl)).trans (step n))
  · have e : (⟨4, ![1, 1, 3, 3]⟩ : Shape).numel = 9 := by decide
    rw [e]
    exact taps_sum (fun r c => v (ix4 a b r c)) y x

end Cert.LogBin
end
-- ==== Proof.RefIndex.lean ====
/- The reference's gathers: a table of row (or column) numbers, clamped to the image, read along one axis. -/
module
public import proofs.«01_k».proof.Proof.Spec
public import proofs.«01_k».proof.Proof.Gen.ReferenceIdeal
public import Idealize.ShloMosaic.Lib.Pointwise
@[expose] public section
set_option maxRecDepth 16384
noncomputable section
namespace Cert.LogBin
open Idealize.ShloMosaic
open Cert.ReferenceIdeal Cert.ReferenceIdeal.Facts₀

/-- The positions 0 to 36 moved by the word `d` and clamped to 0 to 36. -/
abbrev clampTab (d : BitVec 32) : IVec S37 32 :=
  minsi (broadcastInDim S37 ![] bcast_S_S37 (id (constantI S_ 32 36#32)))
    (maxsi (broadcastInDim S37 ![] bcast_S_S37 (id (constantI S_ 32 0#32)))
      (addi (iotaInDim S37 32 0) (broadcastInDim S37 ![] bcast_S_S37 (constantI S_ 32 d))))

/-- A table of positions as a column, 37 added to the negative ones. -/
abbrev column (v : IVec S37 32) : IVec S37x1 32 :=
  broadcastInDim S37x1 ![0] bcast_S37_S37x1_0
    (select (cmpi .slt v (broadcastInDim S37 ![] bcast_S_S37 (constantI S_ 32 0#32)))
      (addi v (broadcastInDim S37 ![] bcast_S_S37 (constantI S_ 32 37#32))) v)

/-- The column of the positions moved by −3 holds the clamped positions. -/
theorem column_m3 (y : Fin 37) : (column (clampTab 4294967293#32) (ix2 y (0 : Fin 1))).toInt.toNat = (cl (-3) y).val := by
  revert y; decide +kernel
/-- The column of the positions moved by −1 holds the clamped positions. -/
theorem column_m1 (y : Fin 37) : (column (clampTab 4294967295#32) (ix2 y (0 : Fin 1))).toInt.toNat = (cl (-1) y).val := by
  revert y; decide +kernel
/-- The column of the positions not moved holds the positions. -/
theorem column_0 (y : Fin 37) : (column (clampTab 0#32) (ix2 y (0 : Fin 1))).toInt.toNat = y.val := by
  revert y; decide +kernel
/-- The column of the positions moved by 1 holds the clamped positions. -/
theorem column_p1 (y : Fin 37) : (column (clampTab 1#32) (ix2 y (0 : Fin 1))).toInt.toNat = (cl 1 y).val := by
  revert y; decide +kernel
/-- The column of the positions moved by 3 holds the clamped positions. -/
theorem column_p3 (y : Fin 37) : (column (clampTab 3#32) (ix2 y (0 : Fin 1))).toInt.toNat = (cl 3 y).val := by
  revert y; decide +kernel

/-- Rows taken by a column of positions. -/
theorem gather_rows (v : S8x384x37x37.Idx → EReal) (idx : IVec S37x1 32) (f : Fin 37 → Fin 37)
    (h : ∀ y : Fin 37, (idx (ix2 y (0 : Fin 1))).toInt.toNat = (f y).val) (a : Fin 8) (b : Fin 384) (y x : Fin 37) :
    Host.gather gather_S8x384x37x37_S37x1_S8x384x37x37_013_2_n_n_2_1_8384137 v idx (ix4 a b y x) = v (ix4 a b (f y) x) := by
  unfold Host.gather
  refine congrArg v (funext fun i => Fin.ext ?_)
  match i with
  | ⟨0, _⟩ => exact (Nat.zero_add _)
  | ⟨1, _⟩ => exact (Nat.zero_add _)
  | ⟨2, _⟩ =>
    have e : GatherDims.siIdx gather_S8x384x37x37_S37x1_S8x384x37x37_013_2_n_n_2_1_8384137 (ix4 a b y x) ⟨0, by decide⟩ = ix2 y (0 : Fin 1) := by
      funext k
      match k with
      | ⟨0, _⟩ => rfl
      | ⟨1, _⟩ => rfl
    have hy := (f y).isLt
    have k : min (idx (GatherDims.siIdx gather_S8x384x37x37_S37x1_S8x384x37x37_013_2_n_n_2_1_8384137 (ix4 a b y x) ⟨0, by decide⟩)).toInt.toNat 36 + 0 + 0
        = (f y).val := by rw [e, h y]; omega
    exact k
  | ⟨3, _⟩ => exact (Nat.zero_add _)

/-- Columns taken by a column of positions. -/
theorem gather_cols (v : S8x384x37x37.Idx → EReal) (idx : IVec S37x1 32) (f : Fin 37 → Fin 37)
    (h : ∀ y : Fin 37, (idx (ix2 y (0 : Fin 1))).toInt.toNat = (f y).val) (a : Fin 8) (b : Fin 384) (y x : Fin 37) :
    Host.gather gather_S8x384x37x37_S37x1_S8x384x37x37_012_3_n_n_3_1_8384371 v idx (ix4 a b y x) = v (ix4 a b y (f x)) := by
  unfold Host.gather
  refine congrArg v (funext fun i => Fin.ext ?_)
  match i with
  | ⟨0, _⟩ => exact (Nat.zero_add _)
  | ⟨1, _⟩ => exact (Nat.zero_add _)
  | ⟨2, _⟩ => exact (Nat.zero_add _)
  | ⟨3, _⟩ =>
    have e : GatherDims.siIdx gather_S8x384x37x37_S37x1_S8x384x37x37_012_3_n_n_3_1_8384371 (ix4 a b y x) ⟨0, by decide⟩ = ix2 x (0 : Fin 1) := by
      funext k
      match k with
      | ⟨0, _⟩ => rfl
      | ⟨1, _⟩ => rfl
    have hy := (f x).isLt
    have k : min (idx (GatherDims.siIdx gather_S8x384x37x37_S37x1_S8x384x37x37_012_3_n_n_3_1_8384371 (ix4 a b y x) ⟨0, by decide⟩)).toInt.toNat 36 + 0 + 0
        = (f x).val := by rw [e, h x]; omega
    exact k

end Cert.LogBin
end
-- ==== Proof.RefParts.lean ====
/- The parts of the reference: the transposed images, the pooled images, one slab of a bin. -/
module
public import proofs.«01_k».proof.Proof.Window
public import proofs.«01_k».proof.Proof.RefIndex
public import proofs.«01_k».proof.Proof.Payloads
public import proofs.«01_k».proof.Proof.Gen.ReferenceIdeal.Run
@[expose] public section
set_option maxRecDepth 16384
noncomputable section
namespace Cert.LogBin
open Idealize.ShloMosaic Idealize.ShloMosaic.TcCoe Idealize.SL.Sem
open Cert.ReferenceIdeal Cert.ReferenceIdeal.Facts₀ Cert.ReferenceIdeal.Value

variable (V0 : Valuation τ sig (Elt Ideal))

/-- The images, channels last. -/
abbrev images : S8x37x37x384.Idx → EReal := V0 (Proc.devRef .tc main_arg0)

/-- The images with channels ahead of rows and columns. -/
theorem v0_apply (a : Fin 8) (b : Fin 384) (y x : Fin 37) : res_main_v0 V0 (ix4 a b y x) = images V0 (ix4 a y x b) := by
  unfold res_main_v0
  pointwise

/-- The constant initial value of the window sums. -/
theorem init_zero : (broadcastInDim S_ ![] bcast_S_S_ (constant (F := Ideal) S_ .f32 0x00000000#32)) (Shape.Idx.first h_S_) = 0 := lit0

/-- The pooled images: at each point the average over its neighbourhood's points inside the image. -/
theorem v7_apply (a : Fin 8) (b : Fin 384) (y x : Fin 37) :
    res_main_v7 V0 (ix4 a b y x) = pool (fun r c => images V0 (ix4 a r c b)) y x := by
  unfold res_main_v7 Host.reduceWindowAdd
  rw [init_zero]
  show Ideal.div (Ideal.hostReduceWindowAdd (s := ⟨4, ![8, 384, 37, 37]⟩) ![1, 1, 3, 3] ![1, 1, 1, 1] ![0, 0, 1, 1] ![0, 0, 1, 1]
      reduceWindows_S8x384x37x37_S8x384x37x37_w1s1p0_0_w1s1p0_0_w3s1p1_1_w3s1p1_1 (res_main_v0 V0) 0 (ix4 a b y x))
    (broadcastInDim S8x384x37x37 ![0, 1, 2, 3] bcast_S1x1x37x37_S8x384x37x37_0_1_2_3
      (Ideal.hostReduceWindowAdd (s := ⟨4, ![1, 1, 37, 37]⟩) ![1, 1, 3, 3] ![1, 1, 1, 1] ![0, 0, 1, 1] ![0, 0, 1, 1]
        reduceWindows_S1x1x37x37_S1x1x37x37_w1s1p0_0_w1s1p0_0_w3s1p1_1_w3s1p1_1
        (fun _ => Scalar.ofBits (F := Ideal) .f32 0x3F800000#32) 0) (ix4 a b y x)) = _
  rw [window_apply (A := 8) (B := 384)]
  have e : ∀ w : S1x1x37x37.Idx → EReal, broadcastInDim S8x384x37x37 ![0, 1, 2, 3] bcast_S1x1x37x37_S8x384x37x37_0_1_2_3 w (ix4 a b y x)
      = w (ix4 0 0 y x) := fun w => by pointwise
  rw [e, window_apply (A := 1) (B := 1)]
  simp only [v0_apply, lit1, EReal.coe_one]
  rw [boxSum_one, Ideal.div_coe (mul_ne_zero (cnt_ne_zero _) (cnt_ne_zero _)), mul_comm (cnt y) (cnt x)]
  rfl

/-- One bin's slab: the array read at a row and a column taken from two columns of positions. -/
theorem slab_apply (v : S8x384x37x37.Idx → EReal) (iy ix : IVec S37x1 32) (fy fx : Fin 37 → Fin 37)
    (hy : ∀ y : Fin 37, (iy (ix2 y (0 : Fin 1))).toInt.toNat = (fy y).val)
    (hx : ∀ y : Fin 37, (ix (ix2 y (0 : Fin 1))).toInt.toNat = (fx y).val) (a : Fin 8) (b : Fin 384) (y x : Fin 37) :
    broadcastInDim S8x1x384x37x37 ![0, 2, 3, 4] bcast_S8x384x37x37_S8x1x384x37x37_0_2_3_4
      (Host.gather gather_S8x384x37x37_S37x1_S8x384x37x37_012_3_n_n_3_1_8384371
        (Host.gather gather_S8x384x37x37_S37x1_S8x384x37x37_013_2_n_n_2_1_8384137 v iy) ix) (ix5 a 0 b y x)
      = v (ix4 a b (fy y) (fx x)) := by
  have e : ∀ w : S8x384x37x37.Idx → EReal, broadcastInDim S8x1x384x37x37 ![0, 2, 3, 4] bcast_S8x384x37x37_S8x1x384x37x37_0_2_3_4 w (ix5 a 0 b y x)
      = w (ix4 a b y x) := fun w => by pointwise
  rw [e, gather_cols _ _ fx hx, gather_rows _ _ fy hy]

end Cert.LogBin
end
-- ==== Proof.Stack.lean ====
/- Stacks of slabs read at an index. -/
module
public import proofs.«01_k».proof.Proof.Spec
public import proofs.«01_k».proof.ReferenceIdeal
public import Idealize.ShloMosaic.Lib.Pointwise
@[expose] public section
set_option maxRecDepth 16384
noncomputable section
namespace Cert.LogBin
open Idealize.ShloMosaic
open Cert.ReferenceIdeal

/-- A stack of nine slabs read in slab `j`. -/
theorem stack9_apply (s0 s1 s2 s3 s4 s5 s6 s7 s8 : S8x1x384x37x37.Idx → EReal)
    (h : Shape.Concatenates [S8x1x384x37x37, S8x1x384x37x37, S8x1x384x37x37, S8x1x384x37x37, S8x1x384x37x37, S8x1x384x37x37, S8x1x384x37x37, S8x1x384x37x37, S8x1x384x37x37] S8x9x384x37x37 1)
    (a : Fin 8) (j : Fin 9) (b : Fin 384) (y x : Fin 37) :
    concatenate S8x9x384x37x37 1 [⟨S8x1x384x37x37, s0⟩, ⟨S8x1x384x37x37, s1⟩, ⟨S8x1x384x37x37, s2⟩, ⟨S8x1x384x37x37, s3⟩, ⟨S8x1x384x37x37, s4⟩, ⟨S8x1x384x37x37, s5⟩, ⟨S8x1x384x37x37, s6⟩, ⟨S8x1x384x37x37, s7⟩, ⟨S8x1x384x37x37, s8⟩] h (ix5 a j b y x)
      = (![s0, s1, s2, s3, s4, s5, s6, s7, s8] : Fin 9 → S8x1x384x37x37.Idx → EReal) j (ix5 a 0 b y x) := by
  fin_cases j <;> pointwise

/-- A stack of eight slabs read in slab `j`. -/
theorem stack8_apply (s0 s1 s2 s3 s4 s5 s6 s7 : S8x1x384x37x37.Idx → EReal)
    (h : Shape.Concatenates [S8x1x384x37x37, S8x1x384x37x37, S8x1x384x37x37, S8x1x384x37x37, S8x1x384x37x37, S8x1x384x37x37, S8x1x384x37x37, S8x1x384x37x37] S8x8x384x37x37 1)
    (a : Fin 8) (j : Fin 8) (b : Fin 384) (y x : Fin 37) :
    concatenate S8x8x384x37x37 1 [⟨S8x1x384x37x37, s0⟩, ⟨S8x1x384x37x37, s1⟩, ⟨S8x1x384x37x37, s2⟩, ⟨S8x1x384x37x37, s3⟩, ⟨S8x1x384x37x37, s4⟩, ⟨S8x1x384x37x37, s5⟩, ⟨S8x1x384x37x37, s6⟩, ⟨S8x1x384x37x37, s7⟩] h (ix5 a j b y x)
      = (![s0, s1, s2, s3, s4, s5, s6, s7] : Fin 8 → S8x1x384x37x37.Idx → EReal) j (ix5 a 0 b y x) := by
  fin_cases j <;> pointwise

/-- The three parts of the reference's result one after the other along the bins. -/
theorem parts_apply (r : S8x9x384x37x37.Idx → EReal) (p : S8x8x384x37x37.Idx → EReal) (z : S8x12x384x37x37.Idx → EReal)
    (h : Shape.Concatenates [S8x9x384x37x37, S8x8x384x37x37, S8x12x384x37x37] S8x29x384x37x37 1)
    (a : Fin 8) (j : Fin 29) (b : Fin 384) (y x : Fin 37) :
    concatenate S8x29x384x37x37 1 [⟨S8x9x384x37x37, r⟩, ⟨S8x8x384x37x37, p⟩, ⟨S8x12x384x37x37, z⟩] h (ix5 a j b y x)
      = if h1 : j.val < 9 then r (ix5 a ⟨j.val, h1⟩ b y x)
        else if h2 : j.val - 9 < 8 then p (ix5 a ⟨j.val - 9, h2⟩ b y x) else z (ix5 a ⟨j.val - 9 - 8, by omega⟩ b y x) := by
  pointwise

end Cert.LogBin
end
-- ==== Proof.Reference.lean ====
/- What the reference computes: its result, before bins and channels are merged, is the descriptor of the images. -/
module
public import proofs.«01_k».proof.Proof.RefParts
public import proofs.«01_k».proof.Proof.Stack
@[expose] public section
set_option maxRecDepth 16384
noncomputable section
namespace Cert.LogBin
open Idealize.ShloMosaic Idealize.ShloMosaic.TcCoe Idealize.SL.Sem
open Cert.ReferenceIdeal Cert.ReferenceIdeal.Facts₀ Cert.ReferenceIdeal.Value

variable (V0 : Valuation τ sig (Elt Ideal))

/-- The first nine bins of the reference. -/
theorem raw_apply (a : Fin 8) (j : Fin 9) (b : Fin 384) (y x : Fin 37) :
    res_main_v359 V0 (ix5 a j b y x) = bin (fun r c => images V0 (ix4 a r c b)) j.val y x := by
  unfold res_main_v359
  rw [stack9_apply]
  match j with
  | ⟨0, _⟩ => exact (slab_apply (res_main_v0 V0) _ _ (cl (-1)) (cl (-1)) column_m1 column_m1 a b y x).trans (v0_apply V0 a b (cl (-1) y) (cl (-1) x))
  | ⟨1, _⟩ => exact (slab_apply (res_main_v0 V0) _ _ (cl (-1)) id column_m1 column_0 a b y x).trans (v0_apply V0 a b (cl (-1) y) x)
  | ⟨2, _⟩ => exact (slab_apply (res_main_v0 V0) _ _ (cl (-1)) (cl 1) column_m1 column_p1 a b y x).trans (v0_apply V0 a b (cl (-1) y) (cl 1 x))
  | ⟨3, _⟩ => exact (slab_apply (res_main_v0 V0) _ _ id (cl (-1)) column_0 column_m1 a b y x).trans (v0_apply V0 a b y (cl (-1) x))
  | ⟨4, _⟩ => exact (slab_apply (res_main_v0 V0) _ _ id id column_0 column_0 a b y x).trans (v0_apply V0 a b y x)
  | ⟨5, _⟩ => exact (slab_apply (res_main_v0 V0) _ _ id (cl 1) column_0 column_p1 a b y x).trans (v0_apply V0 a b y (cl 1 x))
  | ⟨6, _⟩ => exact (slab_apply (res_main_v0 V0) _ _ (cl 1) (cl (-1)) column_p1 column_m1 a b y x).trans (v0_apply V0 a b (cl 1 y) (cl (-1) x))
  | ⟨7, _⟩ => exact (slab_apply (res_main_v0 V0) _ _ (cl 1) id column_p1 column_0 a b y x).trans (v0_apply V0 a b (cl 1 y) x)
  | ⟨8, _⟩ => exact (slab_apply (res_main_v0 V0) _ _ (cl 1) (cl 1) column_p1 column_p1 a b y x).trans (v0_apply V0 a b (cl 1 y) (cl 1 x))

/-- The slab of a bin taken from the array `v` at the rows moved by `dy` and the columns moved by `dx`. -/
abbrev slab (v : S8x384x37x37.Idx → EReal) (dy dx : BitVec 32) : S8x1x384x37x37.Idx → EReal :=
  broadcastInDim S8x1x384x37x37 ![0, 2, 3, 4] bcast_S8x384x37x37_S8x1x384x37x37_0_2_3_4
    (Host.gather gather_S8x384x37x37_S37x1_S8x384x37x37_012_3_n_n_3_1_8384371
      (Host.gather gather_S8x384x37x37_S37x1_S8x384x37x37_013_2_n_n_2_1_8384137 v (column (clampTab dy))) (column (clampTab dx)))

/-- The eight slabs of an array holding a plane's averages are that plane's bins 9 to 16. -/
theorem pooled_stack (v : S8x384x37x37.Idx → EReal) (f : Fin 37 → Fin 37 → EReal) (a : Fin 8) (j : Fin 8) (b : Fin 384) (y x : Fin 37)
    (hv : ∀ y x, v (ix4 a b y x) = pool f y x)
    (h : Shape.Concatenates [S8x1x384x37x37, S8x1x384x37x37, S8x1x384x37x37, S8x1x384x37x37, S8x1x384x37x37, S8x1x384x37x37, S8x1x384x37x37, S8x1x384x37x37] S8x8x384x37x37 1) :
    concatenate S8x8x384x37x37 1 [⟨S8x1x384x37x37, slab v 4294967293#32 4294967293#32⟩,
      ⟨S8x1x384x37x37, slab v 4294967293#32 0#32⟩,
      ⟨S8x1x384x37x37, slab v 4294967293#32 3#32⟩,
      ⟨S8x1x384x37x37, slab v 0#32 4294967293#32⟩,
      ⟨S8x1x384x37x37, slab v 0#32 3#32⟩,
      ⟨S8x1x384x37x37, slab v 3#32 4294967293#32⟩,
      ⟨S8x1x384x37x37, slab v 3#32 0#32⟩,
      ⟨S8x1x384x37x37, slab v 3#32 3#32⟩] h (ix5 a j b y x)
      = bin f (9 + j.val) y x := by
  rw [stack8_apply]
  match j with
  | ⟨0, _⟩ => exact (slab_apply v _ _ (cl (-3)) (cl (-3)) column_m3 column_m3 a b y x).trans (hv _ _)
  | ⟨1, _⟩ => exact (slab_apply v _ _ (cl (-3)) id column_m3 column_0 a b y x).trans (hv _ _)
  | ⟨2, _⟩ => exact (slab_apply v _ _ (cl (-3)) (cl 3) column_m3 column_p3 a b y x).trans (hv _ _)
  | ⟨3, _⟩ => exact (slab_apply v _ _ id (cl (-3)) column_0 column_m3 a b y x).trans (hv _ _)
  | ⟨4, _⟩ => exact (slab_apply v _ _ id (cl 3) column_0 column_p3 a b y x).trans (hv _ _)
  | ⟨5, _⟩ => exact (slab_apply v _ _ (cl 3) (cl (-3)) column_p3 column_m3 a b y x).trans (hv _ _)
  | ⟨6, _⟩ => exact (slab_apply v _ _ (cl 3) id column_p3 column_0 a b y x).trans (hv _ _)
  | ⟨7, _⟩ => exact (slab_apply v _ _ (cl 3) (cl 3) column_p3 column_p3 a b y x).trans (hv _ _)

/-- The next eight bins of the reference. -/
theorem pooled_apply (a : Fin 8) (j : Fin 8) (b : Fin 384) (y x : Fin 37) :
    res_main_v368 V0 (ix5 a j b y x) = bin (fun r c => images V0 (ix4 a r c b)) (9 + j.val) y x := by
  unfold res_main_v368
  exact pooled_stack (res_main_v7 V0) _ a j b y x (v7_apply V0 a b) _

/-- The reference's result before bins and channels are merged is the descriptor of the images. -/
theorem ref_eq : concatenate S8x29x384x37x37 1 [⟨S8x9x384x37x37, res_main_v359 V0⟩, ⟨S8x8x384x37x37, res_main_v368 V0⟩,
      ⟨S8x12x384x37x37, broadcastInDim S8x12x384x37x37 ![] bcast_S_S8x12x384x37x37 (constant (F := Ideal) S_ .f32 0x00000000#32)⟩]
      concatenates_S8x9x384x37x37_S8x8x384x37x37_S8x12x384x37x37_S8x29x384x37x37_d1 = G (images V0) := by
  funext i
  obtain ⟨a, j, b, y, x, rfl⟩ : ∃ a j b y x, i = ix5 a j b y x := ⟨i 0, i 1, i 2, i 3, i 4, ValueIdx.eq_ix5 i⟩
  rw [parts_apply]
  show _ = bin (fun r c => images V0 (ix4 a r c b)) j.val y x
  split_ifs with h1 h2
  · exact raw_apply V0 a ⟨j.val, h1⟩ b y x
  · have e : 9 + (j.val - 9) = j.val := by omega
    rw [pooled_apply, e]
  · rw [bin_zero _ _ (by omega)]
    exact lit0

end Cert.LogBin
end
-- ==== Proof.Equation.lean ====
/- The reference's run read to the descriptor, and the equation: started on the same images, the kernel and the
   reference end with the same result. -/
module
public import proofs.«01_k».proof.Defs
public import proofs.«01_k».proof.Proof.Array
public import proofs.«01_k».proof.Proof.Reference
public import Idealize.ShloMosaic.Lib.Quiescent
@[expose] public section
set_option maxRecDepth 16384
noncomputable section
namespace Cert.LogBin
open Idealize.ShloMosaic Idealize.ShloMosaic.TcCoe Idealize.SL.Sem

/-- The run of the reference: its result is the merged descriptor of the images, and the images are unchanged. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v371)
          = shapeCast Cert.ReferenceIdeal.S8x11136x37x37 (G (m ((c.tc : Thread Cert.ReferenceIdeal.nD Cert.ReferenceIdeal.τ).loc Cert.ReferenceIdeal.main_arg0)))
              Cert.ReferenceIdeal.Facts₀.shapeCasts_S8x29x384x37x37_S8x11136x37x37
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run _ _ _).mono (fun _ h c => ⟨(h c).1.trans
      (congrArg (fun A => shapeCast Cert.ReferenceIdeal.S8x11136x37x37 A Cert.ReferenceIdeal.Facts₀.shapeCasts_S8x29x384x37x37_S8x11136x37x37)
        (ref_eq (StableHlo.launchContents m c))), (h c).2⟩)
    (Cert.ReferenceIdeal.Value.run m ρ)

/-- The reference's frame: it runs, leaves its images alone, and has no semaphore to leave raised. -/
theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- The kernel computes the reference's function: both results are the merged descriptor of the same images. -/
theorem equation : Cert.algebraic_KernelIdeal_ReferenceIdeal := fun m g m' g' _ hm =>
  ⟨fun c => shapeCast Cert.KernelIdeal.S8x11136x37x37 (G (input m c)) Cert.KernelIdeal.Facts₀.shapeCasts_S8x29x384x37x37_S8x11136x37x37,
    run_kernel m g,
    (θ_run _ _ _).mono (fun _ h c => ⟨(h c).1.trans
      (congrArg (fun X => shapeCast Cert.KernelIdeal.S8x11136x37x37 (G X) Cert.KernelIdeal.Facts₀.shapeCasts_S8x29x384x37x37_S8x11136x37x37) (hm c)),
      (h c).2⟩) (run_reference m' g')⟩

end Cert.LogBin
end
-- ==== Proof.lean ====
/- The proof of the claim: the three frames, the kernel's and its idealization's generated, the reference's off its
   generated run; no operation was rewritten; and the equation of `Proof/Equation.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything claimed of the kernel, its idealization and the reference. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, Cert.LogBin.frame_reference,
    trivial, Cert.LogBin.equation⟩

end Cert.Proof

end
